-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x4096 : Shape := ⟨2, ![16384, 4096]⟩
abbrev S32 : Shape := ⟨1, ![32]⟩
abbrev S96 : Shape := ⟨1, ![96]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel
  bcast_S_S96 : S_.BroadcastsInDim S96 (![] : Fin 0 → Fin S96.rank)
  reducesTo_S96_S_d0 : S96.ReducesTo [0] S_

variable [Facts]

def fn {F : FTy → Type} [FloatOps F] (main_arg0 : FVec F S16384x4096 .f32) (main_arg1 : IVec S32 32) (main_arg2 : IVec S96 32) : IVec S_ 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 1 := constantI S_ 1 1#1
  let main_v2 : IVec S_ 1 := (fun x v => Host.reduce IntOp.andi x v reducesTo_S32_S_d0 h_S_) main_v1 main_c_0
  let main_c_1 : IVec S_ 32 := constantI S_ 32 256#32
  let main_v3 : IVec S32 32 := broadcastInDim S32 ![] bcast_S_S32 main_c_1
  let main_v4 : IVec S32 1 := cmpi .slt main_arg1 main_v3
  let main_c_2 : IVec S_ 1 := constantI S_ 1 1#1
  let main_v5 : IVec S_ 1 := (fun x v => Host.reduce IntOp.andi x v reducesTo_S32_S_d0 h_S_) main_v4 main_c_2
  let main_v6 : IVec S_ 1 := andi main_v2 main_v5
  let main_c_3 : IVec S_ 32 := constantI S_ 32 0#32
  let main_v7 : IVec S96 32 := broadcastInDim S96 ![] bcast_S_S96 main_c_3
  let main_v8 : IVec S96 1 := cmpi .sge main_arg2 main_v7
  let main_c_4 : IVec S_ 1 := constantI S_ 1 1#1
  let main_v9 : IVec S_ 1 := (fun x v => Host.reduce IntOp.andi x v reducesTo_S96_S_d0 h_S_) main_v8 main_c_4
  let main_v10 : IVec S_ 1 := andi main_v6 main_v9
  let main_c_5 : IVec S_ 32 := constantI S_ 32 256#32
  let main_v11 : IVec S96 32 := broadcastInDim S96 ![] bcast_S_S96 main_c_5
  let main_v12 : IVec S96 1 := cmpi .slt main_arg2 main_v11
  let main_c_6 : IVec S_ 1 := constantI S_ 1 1#1
  let main_v13 : IVec S_ 1 := (fun x v => Host.reduce IntOp.andi x v reducesTo_S96_S_d0 h_S_) main_v12 main_c_6
  let main_v14 : IVec S_ 1 := andi main_v10 main_v13
  main_v14
-- ==== Kernel.lean ====
abbrev S16384x4096 : Shape := ⟨2, ![16384, 4096]⟩
abbrev S32 : Shape := ⟨1, ![32]⟩
abbrev S96 : Shape := ⟨1, ![96]⟩
abbrev S16384x32 : Shape := ⟨2, ![16384, 32]⟩
abbrev S16384x96 : Shape := ⟨2, ![16384, 96]⟩
abbrev S64x256 : Shape := ⟨2, ![64, 256]⟩
abbrev S64x32 : Shape := ⟨2, ![64, 32]⟩
abbrev S64x96 : Shape := ⟨2, ![64, 96]⟩
abbrev S_ : Shape := ⟨0, ![]⟩
abbrev S16 : Shape := ⟨1, ![16]⟩
abbrev S1x16 : Shape := ⟨2, ![1, 16]⟩

abbrev nBuf : Table → Nat
  | .hbm => 5
  | .local .scVector .vmem => 8
  | _ => 0

abbrev bufTy : (tb : Table) → Fin (nBuf tb) → BufTy
  | .hbm, ⟨0, _⟩ => ⟨S16384x4096, .f32⟩
  | .hbm, ⟨1, _⟩ => ⟨S32, .i32⟩
  | .hbm, ⟨2, _⟩ => ⟨S96, .i32⟩
  | .hbm, ⟨3, _⟩ => ⟨S16384x32, .f32⟩
  | .hbm, ⟨4, _⟩ => ⟨S16384x96, .f32⟩
  | .local .scVector .vmem, ⟨0, _⟩ => ⟨S32, .i32⟩
  | .local .scVector .vmem, ⟨1, _⟩ => ⟨S96, .i32⟩
  | .local .scVector .vmem, ⟨2, _⟩ => ⟨S64x256, .f32⟩
  | .local .scVector .vmem, ⟨3, _⟩ => ⟨S64x256, .f32⟩
  | .local .scVector .vmem, ⟨4, _⟩ => ⟨S64x32, .f32⟩
  | .local .scVector .vmem, ⟨5, _⟩ => ⟨S64x32, .f32⟩
  | .local .scVector .vmem, ⟨6, _⟩ => ⟨S64x96, .f32⟩
  | .local .scVector .vmem, ⟨7, _⟩ => ⟨S64x96, .f32⟩
  | _, _ => ⟨S16384x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_0_scv : Ref sig .scVector := ⟨.hbm, 3, rfl⟩
abbrev main_v0_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v11 : BitVec 32 := Scalar.addi v2 c0_i32
  let c0_i32_2 : BitVec 32 := 0#32
  ![v11.toNat, 0]
@[reducible] def k0_t1_loop : Scf.Loop 32 :=
  let c0_i32_9 : BitVec 32 := 0#32
  let c16_i32 : BitVec 32 := 16#32
  let v19 : BitVec 32 := Scalar.addi c0_i32_9 c16_i32
  let c1_i32 : BitVec 32 := 1#32
  ⟨c0_i32_9, v19, c1_i32⟩
def k0_off2 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32 : BitVec 32 := 4#32
  let v131 : BitVec 32 := Scalar.muli arg21 c4_i32
  let c0_i32_144 : BitVec 32 := 0#32
  let v132 : BitVec 32 := Scalar.addi v131 c0_i32_144
  let v135 : Index := Scalar.indexCast v132
  let c0_145 : Index := 0#32
  ![v135.toNat, 0]
def k0_off3 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32 : BitVec 32 := 4#32
  let v131 : BitVec 32 := Scalar.muli arg21 c4_i32
  let c0_i32_144 : BitVec 32 := 0#32
  let v132 : BitVec 32 := Scalar.addi v131 c0_i32_144
  let v138 : Index := Scalar.indexCast v132
  let c16_146 : Index := 16#32
  ![v138.toNat, 16]
def k0_off4 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32 : BitVec 32 := 4#32
  let v131 : BitVec 32 := Scalar.muli arg21 c4_i32
  let c0_i32_144 : BitVec 32 := 0#32
  let v132 : BitVec 32 := Scalar.addi v131 c0_i32_144
  let v141 : Index := Scalar.indexCast v132
  let c0_147 : Index := 0#32
  ![v141.toNat, 0]
def k0_off5 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32 : BitVec 32 := 4#32
  let v131 : BitVec 32 := Scalar.muli arg21 c4_i32
  let c0_i32_144 : BitVec 32 := 0#32
  let v132 : BitVec 32 := Scalar.addi v131 c0_i32_144
  let v144 : Index := Scalar.indexCast v132
  let c16_148 : Index := 16#32
  ![v144.toNat, 16]
def k0_off6 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32 : BitVec 32 := 4#32
  let v131 : BitVec 32 := Scalar.muli arg21 c4_i32
  let c0_i32_144 : BitVec 32 := 0#32
  let v132 : BitVec 32 := Scalar.addi v131 c0_i32_144
  let v147 : Index := Scalar.indexCast v132
  let c32_149 : Index := 32#32
  ![v147.toNat, 32]
def k0_off7 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32 : BitVec 32 := 4#32
  let v131 : BitVec 32 := Scalar.muli arg21 c4_i32
  let c0_i32_144 : BitVec 32 := 0#32
  let v132 : BitVec 32 := Scalar.addi v131 c0_i32_144
  let v150 : Index := Scalar.indexCast v132
  let c48_150 : Index := 48#32
  ![v150.toNat, 48]
def k0_off8 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32 : BitVec 32 := 4#32
  let v131 : BitVec 32 := Scalar.muli arg21 c4_i32
  let c0_i32_144 : BitVec 32 := 0#32
  let v132 : BitVec 32 := Scalar.addi v131 c0_i32_144
  let v153 : Index := Scalar.indexCast v132
  let c64_151 : Index := 64#32
  ![v153.toNat, 64]

def k0_chk1 (v3 : IVec S16 32) (v4 : IVec S16 32) (v5 : IVec S16 32) (v6 : IVec S16 32) (v7 : IVec S16 32) (v8 : IVec S16 32) (v9 : IVec S16 32) (v10 : IVec S16 32) (v133 : IVec S16 32) : Prop :=
  (∀ a x, ((![v133, v3] : Fin 2 → IVec S16 32) a x).toNat < S64x256.size a) ∧
  (∀ a x, ((![v133, v4] : Fin 2 → IVec S16 32) a x).toNat < S64x256.size a) ∧
  (∀ a x, ((![v133, v5] : Fin 2 → IVec S16 32) a x).toNat < S64x256.size a) ∧
  (∀ a x, ((![v133, v6] : Fin 2 → IVec S16 32) a x).toNat < S64x256.size a) ∧
  (∀ a x, ((![v133, v7] : Fin 2 → IVec S16 32) a x).toNat < S64x256.size a) ∧
  (∀ a x, ((![v133, v8] : Fin 2 → IVec S16 32) a x).toNat < S64x256.size a) ∧
  (∀ a x, ((![v133, v9] : Fin 2 → IVec S16 32) a x).toNat < S64x256.size a) ∧
  (∀ a x, ((![v133, v10] : Fin 2 → IVec S16 32) a x).toNat < S64x256.size a)
theorem k0_idx1_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw1 : k0_chk1 v3 v4 v5 v6 v7 v8 v9 v10 v133), ∀ a x, ((![v133, v3] : Fin 2 → IVec S16 32) a x).toNat < S64x256.size a := fun v3 v4 v5 v6 v7 v8 v9 v10 v133 k0_hw1 => k0_hw1.1
theorem k0_idx2_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw1 : k0_chk1 v3 v4 v5 v6 v7 v8 v9 v10 v133), ∀ a x, ((![v133, v4] : Fin 2 → IVec S16 32) a x).toNat < S64x256.size a := fun v3 v4 v5 v6 v7 v8 v9 v10 v133 k0_hw1 => k0_hw1.2.1
theorem k0_idx3_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw1 : k0_chk1 v3 v4 v5 v6 v7 v8 v9 v10 v133), ∀ a x, ((![v133, v5] : Fin 2 → IVec S16 32) a x).toNat < S64x256.size a := fun v3 v4 v5 v6 v7 v8 v9 v10 v133 k0_hw1 => k0_hw1.2.2.1
theorem k0_idx4_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw1 : k0_chk1 v3 v4 v5 v6 v7 v8 v9 v10 v133), ∀ a x, ((![v133, v6] : Fin 2 → IVec S16 32) a x).toNat < S64x256.size a := fun v3 v4 v5 v6 v7 v8 v9 v10 v133 k0_hw1 => k0_hw1.2.2.2.1
theorem k0_idx5_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw1 : k0_chk1 v3 v4 v5 v6 v7 v8 v9 v10 v133), ∀ a x, ((![v133, v7] : Fin 2 → IVec S16 32) a x).toNat < S64x256.size a := fun v3 v4 v5 v6 v7 v8 v9 v10 v133 k0_hw1 => k0_hw1.2.2.2.2.1
theorem k0_idx6_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw1 : k0_chk1 v3 v4 v5 v6 v7 v8 v9 v10 v133), ∀ a x, ((![v133, v8] : Fin 2 → IVec S16 32) a x).toNat < S64x256.size a := fun v3 v4 v5 v6 v7 v8 v9 v10 v133 k0_hw1 => k0_hw1.2.2.2.2.2.1
theorem k0_idx7_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw1 : k0_chk1 v3 v4 v5 v6 v7 v8 v9 v10 v133), ∀ a x, ((![v133, v9] : Fin 2 → IVec S16 32) a x).toNat < S64x256.size a := fun v3 v4 v5 v6 v7 v8 v9 v10 v133 k0_hw1 => k0_hw1.2.2.2.2.2.2.1
theorem k0_idx8_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw1 : k0_chk1 v3 v4 v5 v6 v7 v8 v9 v10 v133), ∀ a x, ((![v133, v10] : Fin 2 → IVec S16 32) a x).toNat < S64x256.size a := fun v3 v4 v5 v6 v7 v8 v9 v10 v133 k0_hw1 => k0_hw1.2.2.2.2.2.2.2
def k0_off9 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32 : BitVec 32 := 4#32
  let v131 : BitVec 32 := Scalar.muli arg21 c4_i32
  let c0_i32_144 : BitVec 32 := 0#32
  let v132 : BitVec 32 := Scalar.addi v131 c0_i32_144
  let v156 : Index := Scalar.indexCast v132
  let c80_152 : Index := 80#32
  ![v156.toNat, 80]
def k0_off10 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_153 : BitVec 32 := 4#32
  let v158 : BitVec 32 := Scalar.muli arg21 c4_i32_153
  let c1_i32_154 : BitVec 32 := 1#32
  let v159 : BitVec 32 := Scalar.addi v158 c1_i32_154
  let v162 : Index := Scalar.indexCast v159
  let c0_155 : Index := 0#32
  ![v162.toNat, 0]
def k0_off11 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_153 : BitVec 32 := 4#32
  let v158 : BitVec 32 := Scalar.muli arg21 c4_i32_153
  let c1_i32_154 : BitVec 32 := 1#32
  let v159 : BitVec 32 := Scalar.addi v158 c1_i32_154
  let v165 : Index := Scalar.indexCast v159
  let c16_156 : Index := 16#32
  ![v165.toNat, 16]
def k0_off12 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_153 : BitVec 32 := 4#32
  let v158 : BitVec 32 := Scalar.muli arg21 c4_i32_153
  let c1_i32_154 : BitVec 32 := 1#32
  let v159 : BitVec 32 := Scalar.addi v158 c1_i32_154
  let v168 : Index := Scalar.indexCast v159
  let c0_157 : Index := 0#32
  ![v168.toNat, 0]
def k0_off13 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_153 : BitVec 32 := 4#32
  let v158 : BitVec 32 := Scalar.muli arg21 c4_i32_153
  let c1_i32_154 : BitVec 32 := 1#32
  let v159 : BitVec 32 := Scalar.addi v158 c1_i32_154
  let v171 : Index := Scalar.indexCast v159
  let c16_158 : Index := 16#32
  ![v171.toNat, 16]
def k0_off14 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_153 : BitVec 32 := 4#32
  let v158 : BitVec 32 := Scalar.muli arg21 c4_i32_153
  let c1_i32_154 : BitVec 32 := 1#32
  let v159 : BitVec 32 := Scalar.addi v158 c1_i32_154
  let v174 : Index := Scalar.indexCast v159
  let c32_159 : Index := 32#32
  ![v174.toNat, 32]
def k0_off15 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_153 : BitVec 32 := 4#32
  let v158 : BitVec 32 := Scalar.muli arg21 c4_i32_153
  let c1_i32_154 : BitVec 32 := 1#32
  let v159 : BitVec 32 := Scalar.addi v158 c1_i32_154
  let v177 : Index := Scalar.indexCast v159
  let c48_160 : Index := 48#32
  ![v177.toNat, 48]
def k0_off16 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_153 : BitVec 32 := 4#32
  let v158 : BitVec 32 := Scalar.muli arg21 c4_i32_153
  let c1_i32_154 : BitVec 32 := 1#32
  let v159 : BitVec 32 := Scalar.addi v158 c1_i32_154
  let v180 : Index := Scalar.indexCast v159
  let c64_161 : Index := 64#32
  ![v180.toNat, 64]

def k0_chk2 (v3 : IVec S16 32) (v4 : IVec S16 32) (v5 : IVec S16 32) (v6 : IVec S16 32) (v7 : IVec S16 32) (v8 : IVec S16 32) (v9 : IVec S16 32) (v10 : IVec S16 32) (v160 : IVec S16 32) : Prop :=
  (∀ a x, ((![v160, v3] : Fin 2 → IVec S16 32) a x).toNat < S64x256.size a) ∧
  (∀ a x, ((![v160, v4] : Fin 2 → IVec S16 32) a x).toNat < S64x256.size a) ∧
  (∀ a x, ((![v160, v5] : Fin 2 → IVec S16 32) a x).toNat < S64x256.size a) ∧
  (∀ a x, ((![v160, v6] : Fin 2 → IVec S16 32) a x).toNat < S64x256.size a) ∧
  (∀ a x, ((![v160, v7] : Fin 2 → IVec S16 32) a x).toNat < S64x256.size a) ∧
  (∀ a x, ((![v160, v8] : Fin 2 → IVec S16 32) a x).toNat < S64x256.size a) ∧
  (∀ a x, ((![v160, v9] : Fin 2 → IVec S16 32) a x).toNat < S64x256.size a) ∧
  (∀ a x, ((![v160, v10] : Fin 2 → IVec S16 32) a x).toNat < S64x256.size a)
theorem k0_idx9_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw2 : k0_chk2 v3 v4 v5 v6 v7 v8 v9 v10 v160), ∀ a x, ((![v160, v3] : Fin 2 → IVec S16 32) a x).toNat < S64x256.size a := fun v3 v4 v5 v6 v7 v8 v9 v10 v160 k0_hw2 => k0_hw2.1
theorem k0_idx10_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw2 : k0_chk2 v3 v4 v5 v6 v7 v8 v9 v10 v160), ∀ a x, ((![v160, v4] : Fin 2 → IVec S16 32) a x).toNat < S64x256.size a := fun v3 v4 v5 v6 v7 v8 v9 v10 v160 k0_hw2 => k0_hw2.2.1
theorem k0_idx11_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw2 : k0_chk2 v3 v4 v5 v6 v7 v8 v9 v10 v160), ∀ a x, ((![v160, v5] : Fin 2 → IVec S16 32) a x).toNat < S64x256.size a := fun v3 v4 v5 v6 v7 v8 v9 v10 v160 k0_hw2 => k0_hw2.2.2.1
theorem k0_idx12_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw2 : k0_chk2 v3 v4 v5 v6 v7 v8 v9 v10 v160), ∀ a x, ((![v160, v6] : Fin 2 → IVec S16 32) a x).toNat < S64x256.size a := fun v3 v4 v5 v6 v7 v8 v9 v10 v160 k0_hw2 => k0_hw2.2.2.2.1
theorem k0_idx13_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw2 : k0_chk2 v3 v4 v5 v6 v7 v8 v9 v10 v160), ∀ a x, ((![v160, v7] : Fin 2 → IVec S16 32) a x).toNat < S64x256.size a := fun v3 v4 v5 v6 v7 v8 v9 v10 v160 k0_hw2 => k0_hw2.2.2.2.2.1
theorem k0_idx14_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw2 : k0_chk2 v3 v4 v5 v6 v7 v8 v9 v10 v160), ∀ a x, ((![v160, v8] : Fin 2 → IVec S16 32) a x).toNat < S64x256.size a := fun v3 v4 v5 v6 v7 v8 v9 v10 v160 k0_hw2 => k0_hw2.2.2.2.2.2.1
theorem k0_idx15_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw2 : k0_chk2 v3 v4 v5 v6 v7 v8 v9 v10 v160), ∀ a x, ((![v160, v9] : Fin 2 → IVec S16 32) a x).toNat < S64x256.size a := fun v3 v4 v5 v6 v7 v8 v9 v10 v160 k0_hw2 => k0_hw2.2.2.2.2.2.2.1
theorem k0_idx16_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw2 : k0_chk2 v3 v4 v5 v6 v7 v8 v9 v10 v160), ∀ a x, ((![v160, v10] : Fin 2 → IVec S16 32) a x).toNat < S64x256.size a := fun v3 v4 v5 v6 v7 v8 v9 v10 v160 k0_hw2 => k0_hw2.2.2.2.2.2.2.2
def k0_off17 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_153 : BitVec 32 := 4#32
  let v158 : BitVec 32 := Scalar.muli arg21 c4_i32_153
  let c1_i32_154 : BitVec 32 := 1#32
  let v159 : BitVec 32 := Scalar.addi v158 c1_i32_154
  let v183 : Index := Scalar.indexCast v159
  let c80_162 : Index := 80#32
  ![v183.toNat, 80]
def k0_off18 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_163 : BitVec 32 := 4#32
  let v185 : BitVec 32 := Scalar.muli arg21 c4_i32_163
  let c2_i32_164 : BitVec 32 := 2#32
  let v186 : BitVec 32 := Scalar.addi v185 c2_i32_164
  let v189 : Index := Scalar.indexCast v186
  let c0_165 : Index := 0#32
  ![v189.toNat, 0]
def k0_off19 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_163 : BitVec 32 := 4#32
  let v185 : BitVec 32 := Scalar.muli arg21 c4_i32_163
  let c2_i32_164 : BitVec 32 := 2#32
  let v186 : BitVec 32 := Scalar.addi v185 c2_i32_164
  let v192 : Index := Scalar.indexCast v186
  let c16_166 : Index := 16#32
  ![v192.toNat, 16]
def k0_off20 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_163 : BitVec 32 := 4#32
  let v185 : BitVec 32 := Scalar.muli arg21 c4_i32_163
  let c2_i32_164 : BitVec 32 := 2#32
  let v186 : BitVec 32 := Scalar.addi v185 c2_i32_164
  let v195 : Index := Scalar.indexCast v186
  let c0_167 : Index := 0#32
  ![v195.toNat, 0]
def k0_off21 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_163 : BitVec 32 := 4#32
  let v185 : BitVec 32 := Scalar.muli arg21 c4_i32_163
  let c2_i32_164 : BitVec 32 := 2#32
  let v186 : BitVec 32 := Scalar.addi v185 c2_i32_164
  let v198 : Index := Scalar.indexCast v186
  let c16_168 : Index := 16#32
  ![v198.toNat, 16]
def k0_off22 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_163 : BitVec 32 := 4#32
  let v185 : BitVec 32 := Scalar.muli arg21 c4_i32_163
  let c2_i32_164 : BitVec 32 := 2#32
  let v186 : BitVec 32 := Scalar.addi v185 c2_i32_164
  let v201 : Index := Scalar.indexCast v186
  let c32_169 : Index := 32#32
  ![v201.toNat, 32]
def k0_off23 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_163 : BitVec 32 := 4#32
  let v185 : BitVec 32 := Scalar.muli arg21 c4_i32_163
  let c2_i32_164 : BitVec 32 := 2#32
  let v186 : BitVec 32 := Scalar.addi v185 c2_i32_164
  let v204 : Index := Scalar.indexCast v186
  let c48_170 : Index := 48#32
  ![v204.toNat, 48]
def k0_off24 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_163 : BitVec 32 := 4#32
  let v185 : BitVec 32 := Scalar.muli arg21 c4_i32_163
  let c2_i32_164 : BitVec 32 := 2#32
  let v186 : BitVec 32 := Scalar.addi v185 c2_i32_164
  let v207 : Index := Scalar.indexCast v186
  let c64_171 : Index := 64#32
  ![v207.toNat, 64]

def k0_chk3 (v3 : IVec S16 32) (v4 : IVec S16 32) (v5 : IVec S16 32) (v6 : IVec S16 32) (v7 : IVec S16 32) (v8 : IVec S16 32) (v9 : IVec S16 32) (v10 : IVec S16 32) (v187 : IVec S16 32) : Prop :=
  (∀ a x, ((![v187, v3] : Fin 2 → IVec S16 32) a x).toNat < S64x256.size a) ∧
  (∀ a x, ((![v187, v4] : Fin 2 → IVec S16 32) a x).toNat < S64x256.size a) ∧
  (∀ a x, ((![v187, v5] : Fin 2 → IVec S16 32) a x).toNat < S64x256.size a) ∧
  (∀ a x, ((![v187, v6] : Fin 2 → IVec S16 32) a x).toNat < S64x256.size a) ∧
  (∀ a x, ((![v187, v7] : Fin 2 → IVec S16 32) a x).toNat < S64x256.size a) ∧
  (∀ a x, ((![v187, v8] : Fin 2 → IVec S16 32) a x).toNat < S64x256.size a) ∧
  (∀ a x, ((![v187, v9] : Fin 2 → IVec S16 32) a x).toNat < S64x256.size a) ∧
  (∀ a x, ((![v187, v10] : Fin 2 → IVec S16 32) a x).toNat < S64x256.size a)
theorem k0_idx17_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw3 : k0_chk3 v3 v4 v5 v6 v7 v8 v9 v10 v187), ∀ a x, ((![v187, v3] : Fin 2 → IVec S16 32) a x).toNat < S64x256.size a := fun v3 v4 v5 v6 v7 v8 v9 v10 v187 k0_hw3 => k0_hw3.1
theorem k0_idx18_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw3 : k0_chk3 v3 v4 v5 v6 v7 v8 v9 v10 v187), ∀ a x, ((![v187, v4] : Fin 2 → IVec S16 32) a x).toNat < S64x256.size a := fun v3 v4 v5 v6 v7 v8 v9 v10 v187 k0_hw3 => k0_hw3.2.1
theorem k0_idx19_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw3 : k0_chk3 v3 v4 v5 v6 v7 v8 v9 v10 v187), ∀ a x, ((![v187, v5] : Fin 2 → IVec S16 32) a x).toNat < S64x256.size a := fun v3 v4 v5 v6 v7 v8 v9 v10 v187 k0_hw3 => k0_hw3.2.2.1
theorem k0_idx20_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw3 : k0_chk3 v3 v4 v5 v6 v7 v8 v9 v10 v187), ∀ a x, ((![v187, v6] : Fin 2 → IVec S16 32) a x).toNat < S64x256.size a := fun v3 v4 v5 v6 v7 v8 v9 v10 v187 k0_hw3 => k0_hw3.2.2.2.1
theorem k0_idx21_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw3 : k0_chk3 v3 v4 v5 v6 v7 v8 v9 v10 v187), ∀ a x, ((![v187, v7] : Fin 2 → IVec S16 32) a x).toNat < S64x256.size a := fun v3 v4 v5 v6 v7 v8 v9 v10 v187 k0_hw3 => k0_hw3.2.2.2.2.1
theorem k0_idx22_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw3 : k0_chk3 v3 v4 v5 v6 v7 v8 v9 v10 v187), ∀ a x, ((![v187, v8] : Fin 2 → IVec S16 32) a x).toNat < S64x256.size a := fun v3 v4 v5 v6 v7 v8 v9 v10 v187 k0_hw3 => k0_hw3.2.2.2.2.2.1
theorem k0_idx23_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw3 : k0_chk3 v3 v4 v5 v6 v7 v8 v9 v10 v187), ∀ a x, ((![v187, v9] : Fin 2 → IVec S16 32) a x).toNat < S64x256.size a := fun v3 v4 v5 v6 v7 v8 v9 v10 v187 k0_hw3 => k0_hw3.2.2.2.2.2.2.1
theorem k0_idx24_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw3 : k0_chk3 v3 v4 v5 v6 v7 v8 v9 v10 v187), ∀ a x, ((![v187, v10] : Fin 2 → IVec S16 32) a x).toNat < S64x256.size a := fun v3 v4 v5 v6 v7 v8 v9 v10 v187 k0_hw3 => k0_hw3.2.2.2.2.2.2.2
def k0_off25 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_163 : BitVec 32 := 4#32
  let v185 : BitVec 32 := Scalar.muli arg21 c4_i32_163
  let c2_i32_164 : BitVec 32 := 2#32
  let v186 : BitVec 32 := Scalar.addi v185 c2_i32_164
  let v210 : Index := Scalar.indexCast v186
  let c80_172 : Index := 80#32
  ![v210.toNat, 80]
def k0_off26 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_173 : BitVec 32 := 4#32
  let v212 : BitVec 32 := Scalar.muli arg21 c4_i32_173
  let c3_i32 : BitVec 32 := 3#32
  let v213 : BitVec 32 := Scalar.addi v212 c3_i32
  let v216 : Index := Scalar.indexCast v213
  let c0_174 : Index := 0#32
  ![v216.toNat, 0]
def k0_off27 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_173 : BitVec 32 := 4#32
  let v212 : BitVec 32 := Scalar.muli arg21 c4_i32_173
  let c3_i32 : BitVec 32 := 3#32
  let v213 : BitVec 32 := Scalar.addi v212 c3_i32
  let v219 : Index := Scalar.indexCast v213
  let c16_175 : Index := 16#32
  ![v219.toNat, 16]
def k0_off28 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_173 : BitVec 32 := 4#32
  let v212 : BitVec 32 := Scalar.muli arg21 c4_i32_173
  let c3_i32 : BitVec 32 := 3#32
  let v213 : BitVec 32 := Scalar.addi v212 c3_i32
  let v222 : Index := Scalar.indexCast v213
  let c0_176 : Index := 0#32
  ![v222.toNat, 0]
def k0_off29 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_173 : BitVec 32 := 4#32
  let v212 : BitVec 32 := Scalar.muli arg21 c4_i32_173
  let c3_i32 : BitVec 32 := 3#32
  let v213 : BitVec 32 := Scalar.addi v212 c3_i32
  let v225 : Index := Scalar.indexCast v213
  let c16_177 : Index := 16#32
  ![v225.toNat, 16]
def k0_off30 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_173 : BitVec 32 := 4#32
  let v212 : BitVec 32 := Scalar.muli arg21 c4_i32_173
  let c3_i32 : BitVec 32 := 3#32
  let v213 : BitVec 32 := Scalar.addi v212 c3_i32
  let v228 : Index := Scalar.indexCast v213
  let c32_178 : Index := 32#32
  ![v228.toNat, 32]
def k0_off31 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_173 : BitVec 32 := 4#32
  let v212 : BitVec 32 := Scalar.muli arg21 c4_i32_173
  let c3_i32 : BitVec 32 := 3#32
  let v213 : BitVec 32 := Scalar.addi v212 c3_i32
  let v231 : Index := Scalar.indexCast v213
  let c48_179 : Index := 48#32
  ![v231.toNat, 48]
def k0_off32 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_173 : BitVec 32 := 4#32
  let v212 : BitVec 32 := Scalar.muli arg21 c4_i32_173
  let c3_i32 : BitVec 32 := 3#32
  let v213 : BitVec 32 := Scalar.addi v212 c3_i32
  let v234 : Index := Scalar.indexCast v213
  let c64_180 : Index := 64#32
  ![v234.toNat, 64]

def k0_chk4 (v3 : IVec S16 32) (v4 : IVec S16 32) (v5 : IVec S16 32) (v6 : IVec S16 32) (v7 : IVec S16 32) (v8 : IVec S16 32) (v9 : IVec S16 32) (v10 : IVec S16 32) (v214 : IVec S16 32) : Prop :=
  (∀ a x, ((![v214, v3] : Fin 2 → IVec S16 32) a x).toNat < S64x256.size a) ∧
  (∀ a x, ((![v214, v4] : Fin 2 → IVec S16 32) a x).toNat < S64x256.size a) ∧
  (∀ a x, ((![v214, v5] : Fin 2 → IVec S16 32) a x).toNat < S64x256.size a) ∧
  (∀ a x, ((![v214, v6] : Fin 2 → IVec S16 32) a x).toNat < S64x256.size a) ∧
  (∀ a x, ((![v214, v7] : Fin 2 → IVec S16 32) a x).toNat < S64x256.size a) ∧
  (∀ a x, ((![v214, v8] : Fin 2 → IVec S16 32) a x).toNat < S64x256.size a) ∧
  (∀ a x, ((![v214, v9] : Fin 2 → IVec S16 32) a x).toNat < S64x256.size a) ∧
  (∀ a x, ((![v214, v10] : Fin 2 → IVec S16 32) a x).toNat < S64x256.size a)
theorem k0_idx25_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw4 : k0_chk4 v3 v4 v5 v6 v7 v8 v9 v10 v214), ∀ a x, ((![v214, v3] : Fin 2 → IVec S16 32) a x).toNat < S64x256.size a := fun v3 v4 v5 v6 v7 v8 v9 v10 v214 k0_hw4 => k0_hw4.1
theorem k0_idx26_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw4 : k0_chk4 v3 v4 v5 v6 v7 v8 v9 v10 v214), ∀ a x, ((![v214, v4] : Fin 2 → IVec S16 32) a x).toNat < S64x256.size a := fun v3 v4 v5 v6 v7 v8 v9 v10 v214 k0_hw4 => k0_hw4.2.1
theorem k0_idx27_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw4 : k0_chk4 v3 v4 v5 v6 v7 v8 v9 v10 v214), ∀ a x, ((![v214, v5] : Fin 2 → IVec S16 32) a x).toNat < S64x256.size a := fun v3 v4 v5 v6 v7 v8 v9 v10 v214 k0_hw4 => k0_hw4.2.2.1
theorem k0_idx28_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw4 : k0_chk4 v3 v4 v5 v6 v7 v8 v9 v10 v214), ∀ a x, ((![v214, v6] : Fin 2 → IVec S16 32) a x).toNat < S64x256.size a := fun v3 v4 v5 v6 v7 v8 v9 v10 v214 k0_hw4 => k0_hw4.2.2.2.1
theorem k0_idx29_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw4 : k0_chk4 v3 v4 v5 v6 v7 v8 v9 v10 v214), ∀ a x, ((![v214, v7] : Fin 2 → IVec S16 32) a x).toNat < S64x256.size a := fun v3 v4 v5 v6 v7 v8 v9 v10 v214 k0_hw4 => k0_hw4.2.2.2.2.1
theorem k0_idx30_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw4 : k0_chk4 v3 v4 v5 v6 v7 v8 v9 v10 v214), ∀ a x, ((![v214, v8] : Fin 2 → IVec S16 32) a x).toNat < S64x256.size a := fun v3 v4 v5 v6 v7 v8 v9 v10 v214 k0_hw4 => k0_hw4.2.2.2.2.2.1
theorem k0_idx31_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw4 : k0_chk4 v3 v4 v5 v6 v7 v8 v9 v10 v214), ∀ a x, ((![v214, v9] : Fin 2 → IVec S16 32) a x).toNat < S64x256.size a := fun v3 v4 v5 v6 v7 v8 v9 v10 v214 k0_hw4 => k0_hw4.2.2.2.2.2.2.1
theorem k0_idx32_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw4 : k0_chk4 v3 v4 v5 v6 v7 v8 v9 v10 v214), ∀ a x, ((![v214, v10] : Fin 2 → IVec S16 32) a x).toNat < S64x256.size a := fun v3 v4 v5 v6 v7 v8 v9 v10 v214 k0_hw4 => k0_hw4.2.2.2.2.2.2.2
def k0_off33 (k0_t1 : Fin k0_t1_loop.trips) : Fin 2 → Nat :=
  let c0_i32_9 : BitVec 32 := 0#32
  let c1_i32 : BitVec 32 := 1#32
  let arg21 : BitVec 32 := Scf.iv c0_i32_9 c1_i32 k0_t1
  let c4_i32_173 : BitVec 32 := 4#32
  let v212 : BitVec 32 := Scalar.muli arg21 c4_i32_173
  let c3_i32 : BitVec 32 := 3#32
  let v213 : BitVec 32 := Scalar.addi v212 c3_i32
  let v237 : Index := Scalar.indexCast v213
  let c80_181 : Index := 80#32
  ![v237.toNat, 80]
def k0_off34 (i : grid0.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v20 : BitVec 32 := Scalar.addi v2 c0_i32_11
  let c0_i32_12 : BitVec 32 := 0#32
  ![v20.toNat, 0]
def k0_off35 (i : grid0.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v20 : BitVec 32 := Scalar.addi v2 c0_i32_11
  let c0_i32_14 : BitVec 32 := 0#32
  ![v20.toNat, 0]
def k0_off36 (i : grid0.Coords) (c128_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v25 : BitVec 32 := Scalar.addi v2 c128_i32
  let c0_i32_16 : BitVec 32 := 0#32
  ![v25.toNat, 0]
@[reducible] def k0_t2_loop : Scf.Loop 32 :=
  let c0_i32_21 : BitVec 32 := 0#32
  let c16_i32_22 : BitVec 32 := 16#32
  let v30 : BitVec 32 := Scalar.addi c0_i32_21 c16_i32_22
  let c1_i32_23 : BitVec 32 := 1#32
  ⟨c0_i32_21, v30, c1_i32_23⟩
def k0_off37 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32 : BitVec 32 := 4#32
  let v131 : BitVec 32 := Scalar.muli arg21 c4_i32
  let c0_i32_144 : BitVec 32 := 0#32
  let v132 : BitVec 32 := Scalar.addi v131 c0_i32_144
  let v135 : Index := Scalar.indexCast v132
  let c0_145 : Index := 0#32
  ![v135.toNat, 0]
def k0_off38 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32 : BitVec 32 := 4#32
  let v131 : BitVec 32 := Scalar.muli arg21 c4_i32
  let c0_i32_144 : BitVec 32 := 0#32
  let v132 : BitVec 32 := Scalar.addi v131 c0_i32_144
  let v138 : Index := Scalar.indexCast v132
  let c16_146 : Index := 16#32
  ![v138.toNat, 16]
def k0_off39 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32 : BitVec 32 := 4#32
  let v131 : BitVec 32 := Scalar.muli arg21 c4_i32
  let c0_i32_144 : BitVec 32 := 0#32
  let v132 : BitVec 32 := Scalar.addi v131 c0_i32_144
  let v141 : Index := Scalar.indexCast v132
  let c0_147 : Index := 0#32
  ![v141.toNat, 0]
def k0_off40 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32 : BitVec 32 := 4#32
  let v131 : BitVec 32 := Scalar.muli arg21 c4_i32
  let c0_i32_144 : BitVec 32 := 0#32
  let v132 : BitVec 32 := Scalar.addi v131 c0_i32_144
  let v144 : Index := Scalar.indexCast v132
  let c16_148 : Index := 16#32
  ![v144.toNat, 16]
def k0_off41 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32 : BitVec 32 := 4#32
  let v131 : BitVec 32 := Scalar.muli arg21 c4_i32
  let c0_i32_144 : BitVec 32 := 0#32
  let v132 : BitVec 32 := Scalar.addi v131 c0_i32_144
  let v147 : Index := Scalar.indexCast v132
  let c32_149 : Index := 32#32
  ![v147.toNat, 32]
def k0_off42 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32 : BitVec 32 := 4#32
  let v131 : BitVec 32 := Scalar.muli arg21 c4_i32
  let c0_i32_144 : BitVec 32 := 0#32
  let v132 : BitVec 32 := Scalar.addi v131 c0_i32_144
  let v150 : Index := Scalar.indexCast v132
  let c48_150 : Index := 48#32
  ![v150.toNat, 48]
def k0_off43 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32 : BitVec 32 := 4#32
  let v131 : BitVec 32 := Scalar.muli arg21 c4_i32
  let c0_i32_144 : BitVec 32 := 0#32
  let v132 : BitVec 32 := Scalar.addi v131 c0_i32_144
  let v153 : Index := Scalar.indexCast v132
  let c64_151 : Index := 64#32
  ![v153.toNat, 64]

def k0_chk5 (v3 : IVec S16 32) (v4 : IVec S16 32) (v5 : IVec S16 32) (v6 : IVec S16 32) (v7 : IVec S16 32) (v8 : IVec S16 32) (v9 : IVec S16 32) (v10 : IVec S16 32) (v133 : IVec S16 32) : Prop :=
  (∀ a x, ((![v133, v3] : Fin 2 → IVec S16 32) a x).toNat < S64x256.size a) ∧
  (∀ a x, ((![v133, v4] : Fin 2 → IVec S16 32) a x).toNat < S64x256.size a) ∧
  (∀ a x, ((![v133, v5] : Fin 2 → IVec S16 32) a x).toNat < S64x256.size a) ∧
  (∀ a x, ((![v133, v6] : Fin 2 → IVec S16 32) a x).toNat < S64x256.size a) ∧
  (∀ a x, ((![v133, v7] : Fin 2 → IVec S16 32) a x).toNat < S64x256.size a) ∧
  (∀ a x, ((![v133, v8] : Fin 2 → IVec S16 32) a x).toNat < S64x256.size a) ∧
  (∀ a x, ((![v133, v9] : Fin 2 → IVec S16 32) a x).toNat < S64x256.size a) ∧
  (∀ a x, ((![v133, v10] : Fin 2 → IVec S16 32) a x).toNat < S64x256.size a)
theorem k0_idx33_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw5 : k0_chk5 v3 v4 v5 v6 v7 v8 v9 v10 v133), ∀ a x, ((![v133, v3] : Fin 2 → IVec S16 32) a x).toNat < S64x256.size a := fun v3 v4 v5 v6 v7 v8 v9 v10 v133 k0_hw5 => k0_hw5.1
theorem k0_idx34_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw5 : k0_chk5 v3 v4 v5 v6 v7 v8 v9 v10 v133), ∀ a x, ((![v133, v4] : Fin 2 → IVec S16 32) a x).toNat < S64x256.size a := fun v3 v4 v5 v6 v7 v8 v9 v10 v133 k0_hw5 => k0_hw5.2.1
theorem k0_idx35_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw5 : k0_chk5 v3 v4 v5 v6 v7 v8 v9 v10 v133), ∀ a x, ((![v133, v5] : Fin 2 → IVec S16 32) a x).toNat < S64x256.size a := fun v3 v4 v5 v6 v7 v8 v9 v10 v133 k0_hw5 => k0_hw5.2.2.1
theorem k0_idx36_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw5 : k0_chk5 v3 v4 v5 v6 v7 v8 v9 v10 v133), ∀ a x, ((![v133, v6] : Fin 2 → IVec S16 32) a x).toNat < S64x256.size a := fun v3 v4 v5 v6 v7 v8 v9 v10 v133 k0_hw5 => k0_hw5.2.2.2.1
theorem k0_idx37_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw5 : k0_chk5 v3 v4 v5 v6 v7 v8 v9 v10 v133), ∀ a x, ((![v133, v7] : Fin 2 → IVec S16 32) a x).toNat < S64x256.size a := fun v3 v4 v5 v6 v7 v8 v9 v10 v133 k0_hw5 => k0_hw5.2.2.2.2.1
theorem k0_idx38_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw5 : k0_chk5 v3 v4 v5 v6 v7 v8 v9 v10 v133), ∀ a x, ((![v133, v8] : Fin 2 → IVec S16 32) a x).toNat < S64x256.size a := fun v3 v4 v5 v6 v7 v8 v9 v10 v133 k0_hw5 => k0_hw5.2.2.2.2.2.1
theorem k0_idx39_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw5 : k0_chk5 v3 v4 v5 v6 v7 v8 v9 v10 v133), ∀ a x, ((![v133, v9] : Fin 2 → IVec S16 32) a x).toNat < S64x256.size a := fun v3 v4 v5 v6 v7 v8 v9 v10 v133 k0_hw5 => k0_hw5.2.2.2.2.2.2.1
theorem k0_idx40_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw5 : k0_chk5 v3 v4 v5 v6 v7 v8 v9 v10 v133), ∀ a x, ((![v133, v10] : Fin 2 → IVec S16 32) a x).toNat < S64x256.size a := fun v3 v4 v5 v6 v7 v8 v9 v10 v133 k0_hw5 => k0_hw5.2.2.2.2.2.2.2
def k0_off44 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32 : BitVec 32 := 4#32
  let v131 : BitVec 32 := Scalar.muli arg21 c4_i32
  let c0_i32_144 : BitVec 32 := 0#32
  let v132 : BitVec 32 := Scalar.addi v131 c0_i32_144
  let v156 : Index := Scalar.indexCast v132
  let c80_152 : Index := 80#32
  ![v156.toNat, 80]
def k0_off45 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_153 : BitVec 32 := 4#32
  let v158 : BitVec 32 := Scalar.muli arg21 c4_i32_153
  let c1_i32_154 : BitVec 32 := 1#32
  let v159 : BitVec 32 := Scalar.addi v158 c1_i32_154
  let v162 : Index := Scalar.indexCast v159
  let c0_155 : Index := 0#32
  ![v162.toNat, 0]
def k0_off46 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_153 : BitVec 32 := 4#32
  let v158 : BitVec 32 := Scalar.muli arg21 c4_i32_153
  let c1_i32_154 : BitVec 32 := 1#32
  let v159 : BitVec 32 := Scalar.addi v158 c1_i32_154
  let v165 : Index := Scalar.indexCast v159
  let c16_156 : Index := 16#32
  ![v165.toNat, 16]
def k0_off47 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_153 : BitVec 32 := 4#32
  let v158 : BitVec 32 := Scalar.muli arg21 c4_i32_153
  let c1_i32_154 : BitVec 32 := 1#32
  let v159 : BitVec 32 := Scalar.addi v158 c1_i32_154
  let v168 : Index := Scalar.indexCast v159
  let c0_157 : Index := 0#32
  ![v168.toNat, 0]
def k0_off48 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_153 : BitVec 32 := 4#32
  let v158 : BitVec 32 := Scalar.muli arg21 c4_i32_153
  let c1_i32_154 : BitVec 32 := 1#32
  let v159 : BitVec 32 := Scalar.addi v158 c1_i32_154
  let v171 : Index := Scalar.indexCast v159
  let c16_158 : Index := 16#32
  ![v171.toNat, 16]
def k0_off49 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_153 : BitVec 32 := 4#32
  let v158 : BitVec 32 := Scalar.muli arg21 c4_i32_153
  let c1_i32_154 : BitVec 32 := 1#32
  let v159 : BitVec 32 := Scalar.addi v158 c1_i32_154
  let v174 : Index := Scalar.indexCast v159
  let c32_159 : Index := 32#32
  ![v174.toNat, 32]
def k0_off50 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_153 : BitVec 32 := 4#32
  let v158 : BitVec 32 := Scalar.muli arg21 c4_i32_153
  let c1_i32_154 : BitVec 32 := 1#32
  let v159 : BitVec 32 := Scalar.addi v158 c1_i32_154
  let v177 : Index := Scalar.indexCast v159
  let c48_160 : Index := 48#32
  ![v177.toNat, 48]
def k0_off51 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_153 : BitVec 32 := 4#32
  let v158 : BitVec 32 := Scalar.muli arg21 c4_i32_153
  let c1_i32_154 : BitVec 32 := 1#32
  let v159 : BitVec 32 := Scalar.addi v158 c1_i32_154
  let v180 : Index := Scalar.indexCast v159
  let c64_161 : Index := 64#32
  ![v180.toNat, 64]

def k0_chk6 (v3 : IVec S16 32) (v4 : IVec S16 32) (v5 : IVec S16 32) (v6 : IVec S16 32) (v7 : IVec S16 32) (v8 : IVec S16 32) (v9 : IVec S16 32) (v10 : IVec S16 32) (v160 : IVec S16 32) : Prop :=
  (∀ a x, ((![v160, v3] : Fin 2 → IVec S16 32) a x).toNat < S64x256.size a) ∧
  (∀ a x, ((![v160, v4] : Fin 2 → IVec S16 32) a x).toNat < S64x256.size a) ∧
  (∀ a x, ((![v160, v5] : Fin 2 → IVec S16 32) a x).toNat < S64x256.size a) ∧
  (∀ a x, ((![v160, v6] : Fin 2 → IVec S16 32) a x).toNat < S64x256.size a) ∧
  (∀ a x, ((![v160, v7] : Fin 2 → IVec S16 32) a x).toNat < S64x256.size a) ∧
  (∀ a x, ((![v160, v8] : Fin 2 → IVec S16 32) a x).toNat < S64x256.size a) ∧
  (∀ a x, ((![v160, v9] : Fin 2 → IVec S16 32) a x).toNat < S64x256.size a) ∧
  (∀ a x, ((![v160, v10] : Fin 2 → IVec S16 32) a x).toNat < S64x256.size a)
theorem k0_idx41_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw6 : k0_chk6 v3 v4 v5 v6 v7 v8 v9 v10 v160), ∀ a x, ((![v160, v3] : Fin 2 → IVec S16 32) a x).toNat < S64x256.size a := fun v3 v4 v5 v6 v7 v8 v9 v10 v160 k0_hw6 => k0_hw6.1
theorem k0_idx42_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw6 : k0_chk6 v3 v4 v5 v6 v7 v8 v9 v10 v160), ∀ a x, ((![v160, v4] : Fin 2 → IVec S16 32) a x).toNat < S64x256.size a := fun v3 v4 v5 v6 v7 v8 v9 v10 v160 k0_hw6 => k0_hw6.2.1
theorem k0_idx43_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw6 : k0_chk6 v3 v4 v5 v6 v7 v8 v9 v10 v160), ∀ a x, ((![v160, v5] : Fin 2 → IVec S16 32) a x).toNat < S64x256.size a := fun v3 v4 v5 v6 v7 v8 v9 v10 v160 k0_hw6 => k0_hw6.2.2.1
theorem k0_idx44_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw6 : k0_chk6 v3 v4 v5 v6 v7 v8 v9 v10 v160), ∀ a x, ((![v160, v6] : Fin 2 → IVec S16 32) a x).toNat < S64x256.size a := fun v3 v4 v5 v6 v7 v8 v9 v10 v160 k0_hw6 => k0_hw6.2.2.2.1
theorem k0_idx45_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw6 : k0_chk6 v3 v4 v5 v6 v7 v8 v9 v10 v160), ∀ a x, ((![v160, v7] : Fin 2 → IVec S16 32) a x).toNat < S64x256.size a := fun v3 v4 v5 v6 v7 v8 v9 v10 v160 k0_hw6 => k0_hw6.2.2.2.2.1
theorem k0_idx46_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw6 : k0_chk6 v3 v4 v5 v6 v7 v8 v9 v10 v160), ∀ a x, ((![v160, v8] : Fin 2 → IVec S16 32) a x).toNat < S64x256.size a := fun v3 v4 v5 v6 v7 v8 v9 v10 v160 k0_hw6 => k0_hw6.2.2.2.2.2.1
theorem k0_idx47_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw6 : k0_chk6 v3 v4 v5 v6 v7 v8 v9 v10 v160), ∀ a x, ((![v160, v9] : Fin 2 → IVec S16 32) a x).toNat < S64x256.size a := fun v3 v4 v5 v6 v7 v8 v9 v10 v160 k0_hw6 => k0_hw6.2.2.2.2.2.2.1
theorem k0_idx48_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw6 : k0_chk6 v3 v4 v5 v6 v7 v8 v9 v10 v160), ∀ a x, ((![v160, v10] : Fin 2 → IVec S16 32) a x).toNat < S64x256.size a := fun v3 v4 v5 v6 v7 v8 v9 v10 v160 k0_hw6 => k0_hw6.2.2.2.2.2.2.2
def k0_off52 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_153 : BitVec 32 := 4#32
  let v158 : BitVec 32 := Scalar.muli arg21 c4_i32_153
  let c1_i32_154 : BitVec 32 := 1#32
  let v159 : BitVec 32 := Scalar.addi v158 c1_i32_154
  let v183 : Index := Scalar.indexCast v159
  let c80_162 : Index := 80#32
  ![v183.toNat, 80]
def k0_off53 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_163 : BitVec 32 := 4#32
  let v185 : BitVec 32 := Scalar.muli arg21 c4_i32_163
  let c2_i32_164 : BitVec 32 := 2#32
  let v186 : BitVec 32 := Scalar.addi v185 c2_i32_164
  let v189 : Index := Scalar.indexCast v186
  let c0_165 : Index := 0#32
  ![v189.toNat, 0]
def k0_off54 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_163 : BitVec 32 := 4#32
  let v185 : BitVec 32 := Scalar.muli arg21 c4_i32_163
  let c2_i32_164 : BitVec 32 := 2#32
  let v186 : BitVec 32 := Scalar.addi v185 c2_i32_164
  let v192 : Index := Scalar.indexCast v186
  let c16_166 : Index := 16#32
  ![v192.toNat, 16]
def k0_off55 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_163 : BitVec 32 := 4#32
  let v185 : BitVec 32 := Scalar.muli arg21 c4_i32_163
  let c2_i32_164 : BitVec 32 := 2#32
  let v186 : BitVec 32 := Scalar.addi v185 c2_i32_164
  let v195 : Index := Scalar.indexCast v186
  let c0_167 : Index := 0#32
  ![v195.toNat, 0]
def k0_off56 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_163 : BitVec 32 := 4#32
  let v185 : BitVec 32 := Scalar.muli arg21 c4_i32_163
  let c2_i32_164 : BitVec 32 := 2#32
  let v186 : BitVec 32 := Scalar.addi v185 c2_i32_164
  let v198 : Index := Scalar.indexCast v186
  let c16_168 : Index := 16#32
  ![v198.toNat, 16]
def k0_off57 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_163 : BitVec 32 := 4#32
  let v185 : BitVec 32 := Scalar.muli arg21 c4_i32_163
  let c2_i32_164 : BitVec 32 := 2#32
  let v186 : BitVec 32 := Scalar.addi v185 c2_i32_164
  let v201 : Index := Scalar.indexCast v186
  let c32_169 : Index := 32#32
  ![v201.toNat, 32]
def k0_off58 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_163 : BitVec 32 := 4#32
  let v185 : BitVec 32 := Scalar.muli arg21 c4_i32_163
  let c2_i32_164 : BitVec 32 := 2#32
  let v186 : BitVec 32 := Scalar.addi v185 c2_i32_164
  let v204 : Index := Scalar.indexCast v186
  let c48_170 : Index := 48#32
  ![v204.toNat, 48]
def k0_off59 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_163 : BitVec 32 := 4#32
  let v185 : BitVec 32 := Scalar.muli arg21 c4_i32_163
  let c2_i32_164 : BitVec 32 := 2#32
  let v186 : BitVec 32 := Scalar.addi v185 c2_i32_164
  let v207 : Index := Scalar.indexCast v186
  let c64_171 : Index := 64#32
  ![v207.toNat, 64]

def k0_chk7 (v3 : IVec S16 32) (v4 : IVec S16 32) (v5 : IVec S16 32) (v6 : IVec S16 32) (v7 : IVec S16 32) (v8 : IVec S16 32) (v9 : IVec S16 32) (v10 : IVec S16 32) (v187 : IVec S16 32) : Prop :=
  (∀ a x, ((![v187, v3] : Fin 2 → IVec S16 32) a x).toNat < S64x256.size a) ∧
  (∀ a x, ((![v187, v4] : Fin 2 → IVec S16 32) a x).toNat < S64x256.size a) ∧
  (∀ a x, ((![v187, v5] : Fin 2 → IVec S16 32) a x).toNat < S64x256.size a) ∧
  (∀ a x, ((![v187, v6] : Fin 2 → IVec S16 32) a x).toNat < S64x256.size a) ∧
  (∀ a x, ((![v187, v7] : Fin 2 → IVec S16 32) a x).toNat < S64x256.size a) ∧
  (∀ a x, ((![v187, v8] : Fin 2 → IVec S16 32) a x).toNat < S64x256.size a) ∧
  (∀ a x, ((![v187, v9] : Fin 2 → IVec S16 32) a x).toNat < S64x256.size a) ∧
  (∀ a x, ((![v187, v10] : Fin 2 → IVec S16 32) a x).toNat < S64x256.size a)
theorem k0_idx49_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw7 : k0_chk7 v3 v4 v5 v6 v7 v8 v9 v10 v187), ∀ a x, ((![v187, v3] : Fin 2 → IVec S16 32) a x).toNat < S64x256.size a := fun v3 v4 v5 v6 v7 v8 v9 v10 v187 k0_hw7 => k0_hw7.1
theorem k0_idx50_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw7 : k0_chk7 v3 v4 v5 v6 v7 v8 v9 v10 v187), ∀ a x, ((![v187, v4] : Fin 2 → IVec S16 32) a x).toNat < S64x256.size a := fun v3 v4 v5 v6 v7 v8 v9 v10 v187 k0_hw7 => k0_hw7.2.1
theorem k0_idx51_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw7 : k0_chk7 v3 v4 v5 v6 v7 v8 v9 v10 v187), ∀ a x, ((![v187, v5] : Fin 2 → IVec S16 32) a x).toNat < S64x256.size a := fun v3 v4 v5 v6 v7 v8 v9 v10 v187 k0_hw7 => k0_hw7.2.2.1
theorem k0_idx52_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw7 : k0_chk7 v3 v4 v5 v6 v7 v8 v9 v10 v187), ∀ a x, ((![v187, v6] : Fin 2 → IVec S16 32) a x).toNat < S64x256.size a := fun v3 v4 v5 v6 v7 v8 v9 v10 v187 k0_hw7 => k0_hw7.2.2.2.1
theorem k0_idx53_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw7 : k0_chk7 v3 v4 v5 v6 v7 v8 v9 v10 v187), ∀ a x, ((![v187, v7] : Fin 2 → IVec S16 32) a x).toNat < S64x256.size a := fun v3 v4 v5 v6 v7 v8 v9 v10 v187 k0_hw7 => k0_hw7.2.2.2.2.1
theorem k0_idx54_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw7 : k0_chk7 v3 v4 v5 v6 v7 v8 v9 v10 v187), ∀ a x, ((![v187, v8] : Fin 2 → IVec S16 32) a x).toNat < S64x256.size a := fun v3 v4 v5 v6 v7 v8 v9 v10 v187 k0_hw7 => k0_hw7.2.2.2.2.2.1
theorem k0_idx55_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw7 : k0_chk7 v3 v4 v5 v6 v7 v8 v9 v10 v187), ∀ a x, ((![v187, v9] : Fin 2 → IVec S16 32) a x).toNat < S64x256.size a := fun v3 v4 v5 v6 v7 v8 v9 v10 v187 k0_hw7 => k0_hw7.2.2.2.2.2.2.1
theorem k0_idx56_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw7 : k0_chk7 v3 v4 v5 v6 v7 v8 v9 v10 v187), ∀ a x, ((![v187, v10] : Fin 2 → IVec S16 32) a x).toNat < S64x256.size a := fun v3 v4 v5 v6 v7 v8 v9 v10 v187 k0_hw7 => k0_hw7.2.2.2.2.2.2.2
def k0_off60 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_163 : BitVec 32 := 4#32
  let v185 : BitVec 32 := Scalar.muli arg21 c4_i32_163
  let c2_i32_164 : BitVec 32 := 2#32
  let v186 : BitVec 32 := Scalar.addi v185 c2_i32_164
  let v210 : Index := Scalar.indexCast v186
  let c80_172 : Index := 80#32
  ![v210.toNat, 80]
def k0_off61 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_173 : BitVec 32 := 4#32
  let v212 : BitVec 32 := Scalar.muli arg21 c4_i32_173
  let c3_i32 : BitVec 32 := 3#32
  let v213 : BitVec 32 := Scalar.addi v212 c3_i32
  let v216 : Index := Scalar.indexCast v213
  let c0_174 : Index := 0#32
  ![v216.toNat, 0]
def k0_off62 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_173 : BitVec 32 := 4#32
  let v212 : BitVec 32 := Scalar.muli arg21 c4_i32_173
  let c3_i32 : BitVec 32 := 3#32
  let v213 : BitVec 32 := Scalar.addi v212 c3_i32
  let v219 : Index := Scalar.indexCast v213
  let c16_175 : Index := 16#32
  ![v219.toNat, 16]
def k0_off63 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_173 : BitVec 32 := 4#32
  let v212 : BitVec 32 := Scalar.muli arg21 c4_i32_173
  let c3_i32 : BitVec 32 := 3#32
  let v213 : BitVec 32 := Scalar.addi v212 c3_i32
  let v222 : Index := Scalar.indexCast v213
  let c0_176 : Index := 0#32
  ![v222.toNat, 0]
def k0_off64 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_173 : BitVec 32 := 4#32
  let v212 : BitVec 32 := Scalar.muli arg21 c4_i32_173
  let c3_i32 : BitVec 32 := 3#32
  let v213 : BitVec 32 := Scalar.addi v212 c3_i32
  let v225 : Index := Scalar.indexCast v213
  let c16_177 : Index := 16#32
  ![v225.toNat, 16]
def k0_off65 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_173 : BitVec 32 := 4#32
  let v212 : BitVec 32 := Scalar.muli arg21 c4_i32_173
  let c3_i32 : BitVec 32 := 3#32
  let v213 : BitVec 32 := Scalar.addi v212 c3_i32
  let v228 : Index := Scalar.indexCast v213
  let c32_178 : Index := 32#32
  ![v228.toNat, 32]
def k0_off66 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_173 : BitVec 32 := 4#32
  let v212 : BitVec 32 := Scalar.muli arg21 c4_i32_173
  let c3_i32 : BitVec 32 := 3#32
  let v213 : BitVec 32 := Scalar.addi v212 c3_i32
  let v231 : Index := Scalar.indexCast v213
  let c48_179 : Index := 48#32
  ![v231.toNat, 48]
def k0_off67 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_173 : BitVec 32 := 4#32
  let v212 : BitVec 32 := Scalar.muli arg21 c4_i32_173
  let c3_i32 : BitVec 32 := 3#32
  let v213 : BitVec 32 := Scalar.addi v212 c3_i32
  let v234 : Index := Scalar.indexCast v213
  let c64_180 : Index := 64#32
  ![v234.toNat, 64]

def k0_chk8 (v3 : IVec S16 32) (v4 : IVec S16 32) (v5 : IVec S16 32) (v6 : IVec S16 32) (v7 : IVec S16 32) (v8 : IVec S16 32) (v9 : IVec S16 32) (v10 : IVec S16 32) (v214 : IVec S16 32) : Prop :=
  (∀ a x, ((![v214, v3] : Fin 2 → IVec S16 32) a x).toNat < S64x256.size a) ∧
  (∀ a x, ((![v214, v4] : Fin 2 → IVec S16 32) a x).toNat < S64x256.size a) ∧
  (∀ a x, ((![v214, v5] : Fin 2 → IVec S16 32) a x).toNat < S64x256.size a) ∧
  (∀ a x, ((![v214, v6] : Fin 2 → IVec S16 32) a x).toNat < S64x256.size a) ∧
  (∀ a x, ((![v214, v7] : Fin 2 → IVec S16 32) a x).toNat < S64x256.size a) ∧
  (∀ a x, ((![v214, v8] : Fin 2 → IVec S16 32) a x).toNat < S64x256.size a) ∧
  (∀ a x, ((![v214, v9] : Fin 2 → IVec S16 32) a x).toNat < S64x256.size a) ∧
  (∀ a x, ((![v214, v10] : Fin 2 → IVec S16 32) a x).toNat < S64x256.size a)
theorem k0_idx57_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw8 : k0_chk8 v3 v4 v5 v6 v7 v8 v9 v10 v214), ∀ a x, ((![v214, v3] : Fin 2 → IVec S16 32) a x).toNat < S64x256.size a := fun v3 v4 v5 v6 v7 v8 v9 v10 v214 k0_hw8 => k0_hw8.1
theorem k0_idx58_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw8 : k0_chk8 v3 v4 v5 v6 v7 v8 v9 v10 v214), ∀ a x, ((![v214, v4] : Fin 2 → IVec S16 32) a x).toNat < S64x256.size a := fun v3 v4 v5 v6 v7 v8 v9 v10 v214 k0_hw8 => k0_hw8.2.1
theorem k0_idx59_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw8 : k0_chk8 v3 v4 v5 v6 v7 v8 v9 v10 v214), ∀ a x, ((![v214, v5] : Fin 2 → IVec S16 32) a x).toNat < S64x256.size a := fun v3 v4 v5 v6 v7 v8 v9 v10 v214 k0_hw8 => k0_hw8.2.2.1
theorem k0_idx60_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw8 : k0_chk8 v3 v4 v5 v6 v7 v8 v9 v10 v214), ∀ a x, ((![v214, v6] : Fin 2 → IVec S16 32) a x).toNat < S64x256.size a := fun v3 v4 v5 v6 v7 v8 v9 v10 v214 k0_hw8 => k0_hw8.2.2.2.1
theorem k0_idx61_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw8 : k0_chk8 v3 v4 v5 v6 v7 v8 v9 v10 v214), ∀ a x, ((![v214, v7] : Fin 2 → IVec S16 32) a x).toNat < S64x256.size a := fun v3 v4 v5 v6 v7 v8 v9 v10 v214 k0_hw8 => k0_hw8.2.2.2.2.1
theorem k0_idx62_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw8 : k0_chk8 v3 v4 v5 v6 v7 v8 v9 v10 v214), ∀ a x, ((![v214, v8] : Fin 2 → IVec S16 32) a x).toNat < S64x256.size a := fun v3 v4 v5 v6 v7 v8 v9 v10 v214 k0_hw8 => k0_hw8.2.2.2.2.2.1
theorem k0_idx63_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw8 : k0_chk8 v3 v4 v5 v6 v7 v8 v9 v10 v214), ∀ a x, ((![v214, v9] : Fin 2 → IVec S16 32) a x).toNat < S64x256.size a := fun v3 v4 v5 v6 v7 v8 v9 v10 v214 k0_hw8 => k0_hw8.2.2.2.2.2.2.1
theorem k0_idx64_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw8 : k0_chk8 v3 v4 v5 v6 v7 v8 v9 v10 v214), ∀ a x, ((![v214, v10] : Fin 2 → IVec S16 32) a x).toNat < S64x256.size a := fun v3 v4 v5 v6 v7 v8 v9 v10 v214 k0_hw8 => k0_hw8.2.2.2.2.2.2.2
def k0_off68 (k0_t2 : Fin k0_t2_loop.trips) : Fin 2 → Nat :=
  let c0_i32_21 : BitVec 32 := 0#32
  let c1_i32_23 : BitVec 32 := 1#32
  let arg21 : BitVec 32 := Scf.iv c0_i32_21 c1_i32_23 k0_t2
  let c4_i32_173 : BitVec 32 := 4#32
  let v212 : BitVec 32 := Scalar.muli arg21 c4_i32_173
  let c3_i32 : BitVec 32 := 3#32
  let v213 : BitVec 32 := Scalar.addi v212 c3_i32
  let v237 : Index := Scalar.indexCast v213
  let c80_181 : Index := 80#32
  ![v237.toNat, 80]
@[reducible] def k0_t3_loop : Scf.Loop 32 :=
  let c0_i32_39 : BitVec 32 := 0#32
  let c16_i32_40 : BitVec 32 := 16#32
  let v45 : BitVec 32 := Scalar.addi c0_i32_39 c16_i32_40
  let c1_i32_41 : BitVec 32 := 1#32
  ⟨c0_i32_39, v45, c1_i32_41⟩
def k0_off69 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32 : BitVec 32 := 4#32
  let v131 : BitVec 32 := Scalar.muli arg21 c4_i32
  let c0_i32_144 : BitVec 32 := 0#32
  let v132 : BitVec 32 := Scalar.addi v131 c0_i32_144
  let v135 : Index := Scalar.indexCast v132
  let c0_145 : Index := 0#32
  ![v135.toNat, 0]
def k0_off70 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32 : BitVec 32 := 4#32
  let v131 : BitVec 32 := Scalar.muli arg21 c4_i32
  let c0_i32_144 : BitVec 32 := 0#32
  let v132 : BitVec 32 := Scalar.addi v131 c0_i32_144
  let v138 : Index := Scalar.indexCast v132
  let c16_146 : Index := 16#32
  ![v138.toNat, 16]
def k0_off71 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32 : BitVec 32 := 4#32
  let v131 : BitVec 32 := Scalar.muli arg21 c4_i32
  let c0_i32_144 : BitVec 32 := 0#32
  let v132 : BitVec 32 := Scalar.addi v131 c0_i32_144
  let v141 : Index := Scalar.indexCast v132
  let c0_147 : Index := 0#32
  ![v141.toNat, 0]
def k0_off72 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32 : BitVec 32 := 4#32
  let v131 : BitVec 32 := Scalar.muli arg21 c4_i32
  let c0_i32_144 : BitVec 32 := 0#32
  let v132 : BitVec 32 := Scalar.addi v131 c0_i32_144
  let v144 : Index := Scalar.indexCast v132
  let c16_148 : Index := 16#32
  ![v144.toNat, 16]
def k0_off73 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32 : BitVec 32 := 4#32
  let v131 : BitVec 32 := Scalar.muli arg21 c4_i32
  let c0_i32_144 : BitVec 32 := 0#32
  let v132 : BitVec 32 := Scalar.addi v131 c0_i32_144
  let v147 : Index := Scalar.indexCast v132
  let c32_149 : Index := 32#32
  ![v147.toNat, 32]
def k0_off74 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32 : BitVec 32 := 4#32
  let v131 : BitVec 32 := Scalar.muli arg21 c4_i32
  let c0_i32_144 : BitVec 32 := 0#32
  let v132 : BitVec 32 := Scalar.addi v131 c0_i32_144
  let v150 : Index := Scalar.indexCast v132
  let c48_150 : Index := 48#32
  ![v150.toNat, 48]
def k0_off75 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32 : BitVec 32 := 4#32
  let v131 : BitVec 32 := Scalar.muli arg21 c4_i32
  let c0_i32_144 : BitVec 32 := 0#32
  let v132 : BitVec 32 := Scalar.addi v131 c0_i32_144
  let v153 : Index := Scalar.indexCast v132
  let c64_151 : Index := 64#32
  ![v153.toNat, 64]

def k0_chk9 (v3 : IVec S16 32) (v4 : IVec S16 32) (v5 : IVec S16 32) (v6 : IVec S16 32) (v7 : IVec S16 32) (v8 : IVec S16 32) (v9 : IVec S16 32) (v10 : IVec S16 32) (v133 : IVec S16 32) : Prop :=
  (∀ a x, ((![v133, v3] : Fin 2 → IVec S16 32) a x).toNat < S64x256.size a) ∧
  (∀ a x, ((![v133, v4] : Fin 2 → IVec S16 32) a x).toNat < S64x256.size a) ∧
  (∀ a x, ((![v133, v5] : Fin 2 → IVec S16 32) a x).toNat < S64x256.size a) ∧
  (∀ a x, ((![v133, v6] : Fin 2 → IVec S16 32) a x).toNat < S64x256.size a) ∧
  (∀ a x, ((![v133, v7] : Fin 2 → IVec S16 32) a x).toNat < S64x256.size a) ∧
  (∀ a x, ((![v133, v8] : Fin 2 → IVec S16 32) a x).toNat < S64x256.size a) ∧
  (∀ a x, ((![v133, v9] : Fin 2 → IVec S16 32) a x).toNat < S64x256.size a) ∧
  (∀ a x, ((![v133, v10] : Fin 2 → IVec S16 32) a x).toNat < S64x256.size a)
theorem k0_idx65_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw9 : k0_chk9 v3 v4 v5 v6 v7 v8 v9 v10 v133), ∀ a x, ((![v133, v3] : Fin 2 → IVec S16 32) a x).toNat < S64x256.size a := fun v3 v4 v5 v6 v7 v8 v9 v10 v133 k0_hw9 => k0_hw9.1
theorem k0_idx66_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw9 : k0_chk9 v3 v4 v5 v6 v7 v8 v9 v10 v133), ∀ a x, ((![v133, v4] : Fin 2 → IVec S16 32) a x).toNat < S64x256.size a := fun v3 v4 v5 v6 v7 v8 v9 v10 v133 k0_hw9 => k0_hw9.2.1
theorem k0_idx67_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw9 : k0_chk9 v3 v4 v5 v6 v7 v8 v9 v10 v133), ∀ a x, ((![v133, v5] : Fin 2 → IVec S16 32) a x).toNat < S64x256.size a := fun v3 v4 v5 v6 v7 v8 v9 v10 v133 k0_hw9 => k0_hw9.2.2.1
theorem k0_idx68_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw9 : k0_chk9 v3 v4 v5 v6 v7 v8 v9 v10 v133), ∀ a x, ((![v133, v6] : Fin 2 → IVec S16 32) a x).toNat < S64x256.size a := fun v3 v4 v5 v6 v7 v8 v9 v10 v133 k0_hw9 => k0_hw9.2.2.2.1
theorem k0_idx69_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw9 : k0_chk9 v3 v4 v5 v6 v7 v8 v9 v10 v133), ∀ a x, ((![v133, v7] : Fin 2 → IVec S16 32) a x).toNat < S64x256.size a := fun v3 v4 v5 v6 v7 v8 v9 v10 v133 k0_hw9 => k0_hw9.2.2.2.2.1
theorem k0_idx70_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw9 : k0_chk9 v3 v4 v5 v6 v7 v8 v9 v10 v133), ∀ a x, ((![v133, v8] : Fin 2 → IVec S16 32) a x).toNat < S64x256.size a := fun v3 v4 v5 v6 v7 v8 v9 v10 v133 k0_hw9 => k0_hw9.2.2.2.2.2.1
theorem k0_idx71_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw9 : k0_chk9 v3 v4 v5 v6 v7 v8 v9 v10 v133), ∀ a x, ((![v133, v9] : Fin 2 → IVec S16 32) a x).toNat < S64x256.size a := fun v3 v4 v5 v6 v7 v8 v9 v10 v133 k0_hw9 => k0_hw9.2.2.2.2.2.2.1
theorem k0_idx72_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw9 : k0_chk9 v3 v4 v5 v6 v7 v8 v9 v10 v133), ∀ a x, ((![v133, v10] : Fin 2 → IVec S16 32) a x).toNat < S64x256.size a := fun v3 v4 v5 v6 v7 v8 v9 v10 v133 k0_hw9 => k0_hw9.2.2.2.2.2.2.2
def k0_off76 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32 : BitVec 32 := 4#32
  let v131 : BitVec 32 := Scalar.muli arg21 c4_i32
  let c0_i32_144 : BitVec 32 := 0#32
  let v132 : BitVec 32 := Scalar.addi v131 c0_i32_144
  let v156 : Index := Scalar.indexCast v132
  let c80_152 : Index := 80#32
  ![v156.toNat, 80]
def k0_off77 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_153 : BitVec 32 := 4#32
  let v158 : BitVec 32 := Scalar.muli arg21 c4_i32_153
  let c1_i32_154 : BitVec 32 := 1#32
  let v159 : BitVec 32 := Scalar.addi v158 c1_i32_154
  let v162 : Index := Scalar.indexCast v159
  let c0_155 : Index := 0#32
  ![v162.toNat, 0]
def k0_off78 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_153 : BitVec 32 := 4#32
  let v158 : BitVec 32 := Scalar.muli arg21 c4_i32_153
  let c1_i32_154 : BitVec 32 := 1#32
  let v159 : BitVec 32 := Scalar.addi v158 c1_i32_154
  let v165 : Index := Scalar.indexCast v159
  let c16_156 : Index := 16#32
  ![v165.toNat, 16]
def k0_off79 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_153 : BitVec 32 := 4#32
  let v158 : BitVec 32 := Scalar.muli arg21 c4_i32_153
  let c1_i32_154 : BitVec 32 := 1#32
  let v159 : BitVec 32 := Scalar.addi v158 c1_i32_154
  let v168 : Index := Scalar.indexCast v159
  let c0_157 : Index := 0#32
  ![v168.toNat, 0]
def k0_off80 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_153 : BitVec 32 := 4#32
  let v158 : BitVec 32 := Scalar.muli arg21 c4_i32_153
  let c1_i32_154 : BitVec 32 := 1#32
  let v159 : BitVec 32 := Scalar.addi v158 c1_i32_154
  let v171 : Index := Scalar.indexCast v159
  let c16_158 : Index := 16#32
  ![v171.toNat, 16]
def k0_off81 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_153 : BitVec 32 := 4#32
  let v158 : BitVec 32 := Scalar.muli arg21 c4_i32_153
  let c1_i32_154 : BitVec 32 := 1#32
  let v159 : BitVec 32 := Scalar.addi v158 c1_i32_154
  let v174 : Index := Scalar.indexCast v159
  let c32_159 : Index := 32#32
  ![v174.toNat, 32]
def k0_off82 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_153 : BitVec 32 := 4#32
  let v158 : BitVec 32 := Scalar.muli arg21 c4_i32_153
  let c1_i32_154 : BitVec 32 := 1#32
  let v159 : BitVec 32 := Scalar.addi v158 c1_i32_154
  let v177 : Index := Scalar.indexCast v159
  let c48_160 : Index := 48#32
  ![v177.toNat, 48]
def k0_off83 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_153 : BitVec 32 := 4#32
  let v158 : BitVec 32 := Scalar.muli arg21 c4_i32_153
  let c1_i32_154 : BitVec 32 := 1#32
  let v159 : BitVec 32 := Scalar.addi v158 c1_i32_154
  let v180 : Index := Scalar.indexCast v159
  let c64_161 : Index := 64#32
  ![v180.toNat, 64]

def k0_chk10 (v3 : IVec S16 32) (v4 : IVec S16 32) (v5 : IVec S16 32) (v6 : IVec S16 32) (v7 : IVec S16 32) (v8 : IVec S16 32) (v9 : IVec S16 32) (v10 : IVec S16 32) (v160 : IVec S16 32) : Prop :=
  (∀ a x, ((![v160, v3] : Fin 2 → IVec S16 32) a x).toNat < S64x256.size a) ∧
  (∀ a x, ((![v160, v4] : Fin 2 → IVec S16 32) a x).toNat < S64x256.size a) ∧
  (∀ a x, ((![v160, v5] : Fin 2 → IVec S16 32) a x).toNat < S64x256.size a) ∧
  (∀ a x, ((![v160, v6] : Fin 2 → IVec S16 32) a x).toNat < S64x256.size a) ∧
  (∀ a x, ((![v160, v7] : Fin 2 → IVec S16 32) a x).toNat < S64x256.size a) ∧
  (∀ a x, ((![v160, v8] : Fin 2 → IVec S16 32) a x).toNat < S64x256.size a) ∧
  (∀ a x, ((![v160, v9] : Fin 2 → IVec S16 32) a x).toNat < S64x256.size a) ∧
  (∀ a x, ((![v160, v10] : Fin 2 → IVec S16 32) a x).toNat < S64x256.size a)
theorem k0_idx73_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw10 : k0_chk10 v3 v4 v5 v6 v7 v8 v9 v10 v160), ∀ a x, ((![v160, v3] : Fin 2 → IVec S16 32) a x).toNat < S64x256.size a := fun v3 v4 v5 v6 v7 v8 v9 v10 v160 k0_hw10 => k0_hw10.1
theorem k0_idx74_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw10 : k0_chk10 v3 v4 v5 v6 v7 v8 v9 v10 v160), ∀ a x, ((![v160, v4] : Fin 2 → IVec S16 32) a x).toNat < S64x256.size a := fun v3 v4 v5 v6 v7 v8 v9 v10 v160 k0_hw10 => k0_hw10.2.1
theorem k0_idx75_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw10 : k0_chk10 v3 v4 v5 v6 v7 v8 v9 v10 v160), ∀ a x, ((![v160, v5] : Fin 2 → IVec S16 32) a x).toNat < S64x256.size a := fun v3 v4 v5 v6 v7 v8 v9 v10 v160 k0_hw10 => k0_hw10.2.2.1
theorem k0_idx76_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw10 : k0_chk10 v3 v4 v5 v6 v7 v8 v9 v10 v160), ∀ a x, ((![v160, v6] : Fin 2 → IVec S16 32) a x).toNat < S64x256.size a := fun v3 v4 v5 v6 v7 v8 v9 v10 v160 k0_hw10 => k0_hw10.2.2.2.1
theorem k0_idx77_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw10 : k0_chk10 v3 v4 v5 v6 v7 v8 v9 v10 v160), ∀ a x, ((![v160, v7] : Fin 2 → IVec S16 32) a x).toNat < S64x256.size a := fun v3 v4 v5 v6 v7 v8 v9 v10 v160 k0_hw10 => k0_hw10.2.2.2.2.1
theorem k0_idx78_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw10 : k0_chk10 v3 v4 v5 v6 v7 v8 v9 v10 v160), ∀ a x, ((![v160, v8] : Fin 2 → IVec S16 32) a x).toNat < S64x256.size a := fun v3 v4 v5 v6 v7 v8 v9 v10 v160 k0_hw10 => k0_hw10.2.2.2.2.2.1
theorem k0_idx79_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw10 : k0_chk10 v3 v4 v5 v6 v7 v8 v9 v10 v160), ∀ a x, ((![v160, v9] : Fin 2 → IVec S16 32) a x).toNat < S64x256.size a := fun v3 v4 v5 v6 v7 v8 v9 v10 v160 k0_hw10 => k0_hw10.2.2.2.2.2.2.1
theorem k0_idx80_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw10 : k0_chk10 v3 v4 v5 v6 v7 v8 v9 v10 v160), ∀ a x, ((![v160, v10] : Fin 2 → IVec S16 32) a x).toNat < S64x256.size a := fun v3 v4 v5 v6 v7 v8 v9 v10 v160 k0_hw10 => k0_hw10.2.2.2.2.2.2.2
def k0_off84 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_153 : BitVec 32 := 4#32
  let v158 : BitVec 32 := Scalar.muli arg21 c4_i32_153
  let c1_i32_154 : BitVec 32 := 1#32
  let v159 : BitVec 32 := Scalar.addi v158 c1_i32_154
  let v183 : Index := Scalar.indexCast v159
  let c80_162 : Index := 80#32
  ![v183.toNat, 80]
def k0_off85 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_163 : BitVec 32 := 4#32
  let v185 : BitVec 32 := Scalar.muli arg21 c4_i32_163
  let c2_i32_164 : BitVec 32 := 2#32
  let v186 : BitVec 32 := Scalar.addi v185 c2_i32_164
  let v189 : Index := Scalar.indexCast v186
  let c0_165 : Index := 0#32
  ![v189.toNat, 0]
def k0_off86 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_163 : BitVec 32 := 4#32
  let v185 : BitVec 32 := Scalar.muli arg21 c4_i32_163
  let c2_i32_164 : BitVec 32 := 2#32
  let v186 : BitVec 32 := Scalar.addi v185 c2_i32_164
  let v192 : Index := Scalar.indexCast v186
  let c16_166 : Index := 16#32
  ![v192.toNat, 16]
def k0_off87 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_163 : BitVec 32 := 4#32
  let v185 : BitVec 32 := Scalar.muli arg21 c4_i32_163
  let c2_i32_164 : BitVec 32 := 2#32
  let v186 : BitVec 32 := Scalar.addi v185 c2_i32_164
  let v195 : Index := Scalar.indexCast v186
  let c0_167 : Index := 0#32
  ![v195.toNat, 0]
def k0_off88 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_163 : BitVec 32 := 4#32
  let v185 : BitVec 32 := Scalar.muli arg21 c4_i32_163
  let c2_i32_164 : BitVec 32 := 2#32
  let v186 : BitVec 32 := Scalar.addi v185 c2_i32_164
  let v198 : Index := Scalar.indexCast v186
  let c16_168 : Index := 16#32
  ![v198.toNat, 16]
def k0_off89 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_163 : BitVec 32 := 4#32
  let v185 : BitVec 32 := Scalar.muli arg21 c4_i32_163
  let c2_i32_164 : BitVec 32 := 2#32
  let v186 : BitVec 32 := Scalar.addi v185 c2_i32_164
  let v201 : Index := Scalar.indexCast v186
  let c32_169 : Index := 32#32
  ![v201.toNat, 32]
def k0_off90 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_163 : BitVec 32 := 4#32
  let v185 : BitVec 32 := Scalar.muli arg21 c4_i32_163
  let c2_i32_164 : BitVec 32 := 2#32
  let v186 : BitVec 32 := Scalar.addi v185 c2_i32_164
  let v204 : Index := Scalar.indexCast v186
  let c48_170 : Index := 48#32
  ![v204.toNat, 48]
def k0_off91 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_163 : BitVec 32 := 4#32
  let v185 : BitVec 32 := Scalar.muli arg21 c4_i32_163
  let c2_i32_164 : BitVec 32 := 2#32
  let v186 : BitVec 32 := Scalar.addi v185 c2_i32_164
  let v207 : Index := Scalar.indexCast v186
  let c64_171 : Index := 64#32
  ![v207.toNat, 64]

def k0_chk11 (v3 : IVec S16 32) (v4 : IVec S16 32) (v5 : IVec S16 32) (v6 : IVec S16 32) (v7 : IVec S16 32) (v8 : IVec S16 32) (v9 : IVec S16 32) (v10 : IVec S16 32) (v187 : IVec S16 32) : Prop :=
  (∀ a x, ((![v187, v3] : Fin 2 → IVec S16 32) a x).toNat < S64x256.size a) ∧
  (∀ a x, ((![v187, v4] : Fin 2 → IVec S16 32) a x).toNat < S64x256.size a) ∧
  (∀ a x, ((![v187, v5] : Fin 2 → IVec S16 32) a x).toNat < S64x256.size a) ∧
  (∀ a x, ((![v187, v6] : Fin 2 → IVec S16 32) a x).toNat < S64x256.size a) ∧
  (∀ a x, ((![v187, v7] : Fin 2 → IVec S16 32) a x).toNat < S64x256.size a) ∧
  (∀ a x, ((![v187, v8] : Fin 2 → IVec S16 32) a x).toNat < S64x256.size a) ∧
  (∀ a x, ((![v187, v9] : Fin 2 → IVec S16 32) a x).toNat < S64x256.size a) ∧
  (∀ a x, ((![v187, v10] : Fin 2 → IVec S16 32) a x).toNat < S64x256.size a)
theorem k0_idx81_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw11 : k0_chk11 v3 v4 v5 v6 v7 v8 v9 v10 v187), ∀ a x, ((![v187, v3] : Fin 2 → IVec S16 32) a x).toNat < S64x256.size a := fun v3 v4 v5 v6 v7 v8 v9 v10 v187 k0_hw11 => k0_hw11.1
theorem k0_idx82_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw11 : k0_chk11 v3 v4 v5 v6 v7 v8 v9 v10 v187), ∀ a x, ((![v187, v4] : Fin 2 → IVec S16 32) a x).toNat < S64x256.size a := fun v3 v4 v5 v6 v7 v8 v9 v10 v187 k0_hw11 => k0_hw11.2.1
theorem k0_idx83_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw11 : k0_chk11 v3 v4 v5 v6 v7 v8 v9 v10 v187), ∀ a x, ((![v187, v5] : Fin 2 → IVec S16 32) a x).toNat < S64x256.size a := fun v3 v4 v5 v6 v7 v8 v9 v10 v187 k0_hw11 => k0_hw11.2.2.1
theorem k0_idx84_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw11 : k0_chk11 v3 v4 v5 v6 v7 v8 v9 v10 v187), ∀ a x, ((![v187, v6] : Fin 2 → IVec S16 32) a x).toNat < S64x256.size a := fun v3 v4 v5 v6 v7 v8 v9 v10 v187 k0_hw11 => k0_hw11.2.2.2.1
theorem k0_idx85_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw11 : k0_chk11 v3 v4 v5 v6 v7 v8 v9 v10 v187), ∀ a x, ((![v187, v7] : Fin 2 → IVec S16 32) a x).toNat < S64x256.size a := fun v3 v4 v5 v6 v7 v8 v9 v10 v187 k0_hw11 => k0_hw11.2.2.2.2.1
theorem k0_idx86_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw11 : k0_chk11 v3 v4 v5 v6 v7 v8 v9 v10 v187), ∀ a x, ((![v187, v8] : Fin 2 → IVec S16 32) a x).toNat < S64x256.size a := fun v3 v4 v5 v6 v7 v8 v9 v10 v187 k0_hw11 => k0_hw11.2.2.2.2.2.1
theorem k0_idx87_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw11 : k0_chk11 v3 v4 v5 v6 v7 v8 v9 v10 v187), ∀ a x, ((![v187, v9] : Fin 2 → IVec S16 32) a x).toNat < S64x256.size a := fun v3 v4 v5 v6 v7 v8 v9 v10 v187 k0_hw11 => k0_hw11.2.2.2.2.2.2.1
theorem k0_idx88_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw11 : k0_chk11 v3 v4 v5 v6 v7 v8 v9 v10 v187), ∀ a x, ((![v187, v10] : Fin 2 → IVec S16 32) a x).toNat < S64x256.size a := fun v3 v4 v5 v6 v7 v8 v9 v10 v187 k0_hw11 => k0_hw11.2.2.2.2.2.2.2
def k0_off92 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_163 : BitVec 32 := 4#32
  let v185 : BitVec 32 := Scalar.muli arg21 c4_i32_163
  let c2_i32_164 : BitVec 32 := 2#32
  let v186 : BitVec 32 := Scalar.addi v185 c2_i32_164
  let v210 : Index := Scalar.indexCast v186
  let c80_172 : Index := 80#32
  ![v210.toNat, 80]
def k0_off93 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_173 : BitVec 32 := 4#32
  let v212 : BitVec 32 := Scalar.muli arg21 c4_i32_173
  let c3_i32 : BitVec 32 := 3#32
  let v213 : BitVec 32 := Scalar.addi v212 c3_i32
  let v216 : Index := Scalar.indexCast v213
  let c0_174 : Index := 0#32
  ![v216.toNat, 0]
def k0_off94 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_173 : BitVec 32 := 4#32
  let v212 : BitVec 32 := Scalar.muli arg21 c4_i32_173
  let c3_i32 : BitVec 32 := 3#32
  let v213 : BitVec 32 := Scalar.addi v212 c3_i32
  let v219 : Index := Scalar.indexCast v213
  let c16_175 : Index := 16#32
  ![v219.toNat, 16]
def k0_off95 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_173 : BitVec 32 := 4#32
  let v212 : BitVec 32 := Scalar.muli arg21 c4_i32_173
  let c3_i32 : BitVec 32 := 3#32
  let v213 : BitVec 32 := Scalar.addi v212 c3_i32
  let v222 : Index := Scalar.indexCast v213
  let c0_176 : Index := 0#32
  ![v222.toNat, 0]
def k0_off96 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_173 : BitVec 32 := 4#32
  let v212 : BitVec 32 := Scalar.muli arg21 c4_i32_173
  let c3_i32 : BitVec 32 := 3#32
  let v213 : BitVec 32 := Scalar.addi v212 c3_i32
  let v225 : Index := Scalar.indexCast v213
  let c16_177 : Index := 16#32
  ![v225.toNat, 16]
def k0_off97 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_173 : BitVec 32 := 4#32
  let v212 : BitVec 32 := Scalar.muli arg21 c4_i32_173
  let c3_i32 : BitVec 32 := 3#32
  let v213 : BitVec 32 := Scalar.addi v212 c3_i32
  let v228 : Index := Scalar.indexCast v213
  let c32_178 : Index := 32#32
  ![v228.toNat, 32]
def k0_off98 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_173 : BitVec 32 := 4#32
  let v212 : BitVec 32 := Scalar.muli arg21 c4_i32_173
  let c3_i32 : BitVec 32 := 3#32
  let v213 : BitVec 32 := Scalar.addi v212 c3_i32
  let v231 : Index := Scalar.indexCast v213
  let c48_179 : Index := 48#32
  ![v231.toNat, 48]
def k0_off99 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_173 : BitVec 32 := 4#32
  let v212 : BitVec 32 := Scalar.muli arg21 c4_i32_173
  let c3_i32 : BitVec 32 := 3#32
  let v213 : BitVec 32 := Scalar.addi v212 c3_i32
  let v234 : Index := Scalar.indexCast v213
  let c64_180 : Index := 64#32
  ![v234.toNat, 64]

def k0_chk12 (v3 : IVec S16 32) (v4 : IVec S16 32) (v5 : IVec S16 32) (v6 : IVec S16 32) (v7 : IVec S16 32) (v8 : IVec S16 32) (v9 : IVec S16 32) (v10 : IVec S16 32) (v214 : IVec S16 32) : Prop :=
  (∀ a x, ((![v214, v3] : Fin 2 → IVec S16 32) a x).toNat < S64x256.size a) ∧
  (∀ a x, ((![v214, v4] : Fin 2 → IVec S16 32) a x).toNat < S64x256.size a) ∧
  (∀ a x, ((![v214, v5] : Fin 2 → IVec S16 32) a x).toNat < S64x256.size a) ∧
  (∀ a x, ((![v214, v6] : Fin 2 → IVec S16 32) a x).toNat < S64x256.size a) ∧
  (∀ a x, ((![v214, v7] : Fin 2 → IVec S16 32) a x).toNat < S64x256.size a) ∧
  (∀ a x, ((![v214, v8] : Fin 2 → IVec S16 32) a x).toNat < S64x256.size a) ∧
  (∀ a x, ((![v214, v9] : Fin 2 → IVec S16 32) a x).toNat < S64x256.size a) ∧
  (∀ a x, ((![v214, v10] : Fin 2 → IVec S16 32) a x).toNat < S64x256.size a)
theorem k0_idx89_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw12 : k0_chk12 v3 v4 v5 v6 v7 v8 v9 v10 v214), ∀ a x, ((![v214, v3] : Fin 2 → IVec S16 32) a x).toNat < S64x256.size a := fun v3 v4 v5 v6 v7 v8 v9 v10 v214 k0_hw12 => k0_hw12.1
theorem k0_idx90_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw12 : k0_chk12 v3 v4 v5 v6 v7 v8 v9 v10 v214), ∀ a x, ((![v214, v4] : Fin 2 → IVec S16 32) a x).toNat < S64x256.size a := fun v3 v4 v5 v6 v7 v8 v9 v10 v214 k0_hw12 => k0_hw12.2.1
theorem k0_idx91_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw12 : k0_chk12 v3 v4 v5 v6 v7 v8 v9 v10 v214), ∀ a x, ((![v214, v5] : Fin 2 → IVec S16 32) a x).toNat < S64x256.size a := fun v3 v4 v5 v6 v7 v8 v9 v10 v214 k0_hw12 => k0_hw12.2.2.1
theorem k0_idx92_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw12 : k0_chk12 v3 v4 v5 v6 v7 v8 v9 v10 v214), ∀ a x, ((![v214, v6] : Fin 2 → IVec S16 32) a x).toNat < S64x256.size a := fun v3 v4 v5 v6 v7 v8 v9 v10 v214 k0_hw12 => k0_hw12.2.2.2.1
theorem k0_idx93_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw12 : k0_chk12 v3 v4 v5 v6 v7 v8 v9 v10 v214), ∀ a x, ((![v214, v7] : Fin 2 → IVec S16 32) a x).toNat < S64x256.size a := fun v3 v4 v5 v6 v7 v8 v9 v10 v214 k0_hw12 => k0_hw12.2.2.2.2.1
theorem k0_idx94_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw12 : k0_chk12 v3 v4 v5 v6 v7 v8 v9 v10 v214), ∀ a x, ((![v214, v8] : Fin 2 → IVec S16 32) a x).toNat < S64x256.size a := fun v3 v4 v5 v6 v7 v8 v9 v10 v214 k0_hw12 => k0_hw12.2.2.2.2.2.1
theorem k0_idx95_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw12 : k0_chk12 v3 v4 v5 v6 v7 v8 v9 v10 v214), ∀ a x, ((![v214, v9] : Fin 2 → IVec S16 32) a x).toNat < S64x256.size a := fun v3 v4 v5 v6 v7 v8 v9 v10 v214 k0_hw12 => k0_hw12.2.2.2.2.2.2.1
theorem k0_idx96_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw12 : k0_chk12 v3 v4 v5 v6 v7 v8 v9 v10 v214), ∀ a x, ((![v214, v10] : Fin 2 → IVec S16 32) a x).toNat < S64x256.size a := fun v3 v4 v5 v6 v7 v8 v9 v10 v214 k0_hw12 => k0_hw12.2.2.2.2.2.2.2
def k0_off100 (k0_t3 : Fin k0_t3_loop.trips) : Fin 2 → Nat :=
  let c0_i32_39 : BitVec 32 := 0#32
  let c1_i32_41 : BitVec 32 := 1#32
  let arg21 : BitVec 32 := Scf.iv c0_i32_39 c1_i32_41 k0_t3
  let c4_i32_173 : BitVec 32 := 4#32
  let v212 : BitVec 32 := Scalar.muli arg21 c4_i32_173
  let c3_i32 : BitVec 32 := 3#32
  let v213 : BitVec 32 := Scalar.addi v212 c3_i32
  let v237 : Index := Scalar.indexCast v213
  let c80_181 : Index := 80#32
  ![v237.toNat, 80]
@[reducible] def k0_t4_loop : Scf.Loop 32 :=
  let c0_i32_57 : BitVec 32 := 0#32
  let c16_i32_58 : BitVec 32 := 16#32
  let v60 : BitVec 32 := Scalar.addi c0_i32_57 c16_i32_58
  let c1_i32_59 : BitVec 32 := 1#32
  ⟨c0_i32_57, v60, c1_i32_59⟩
def k0_off101 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32 : BitVec 32 := 4#32
  let v131 : BitVec 32 := Scalar.muli arg21 c4_i32
  let c0_i32_144 : BitVec 32 := 0#32
  let v132 : BitVec 32 := Scalar.addi v131 c0_i32_144
  let v135 : Index := Scalar.indexCast v132
  let c0_145 : Index := 0#32
  ![v135.toNat, 0]
def k0_off102 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32 : BitVec 32 := 4#32
  let v131 : BitVec 32 := Scalar.muli arg21 c4_i32
  let c0_i32_144 : BitVec 32 := 0#32
  let v132 : BitVec 32 := Scalar.addi v131 c0_i32_144
  let v138 : Index := Scalar.indexCast v132
  let c16_146 : Index := 16#32
  ![v138.toNat, 16]
def k0_off103 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32 : BitVec 32 := 4#32
  let v131 : BitVec 32 := Scalar.muli arg21 c4_i32
  let c0_i32_144 : BitVec 32 := 0#32
  let v132 : BitVec 32 := Scalar.addi v131 c0_i32_144
  let v141 : Index := Scalar.indexCast v132
  let c0_147 : Index := 0#32
  ![v141.toNat, 0]
def k0_off104 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32 : BitVec 32 := 4#32
  let v131 : BitVec 32 := Scalar.muli arg21 c4_i32
  let c0_i32_144 : BitVec 32 := 0#32
  let v132 : BitVec 32 := Scalar.addi v131 c0_i32_144
  let v144 : Index := Scalar.indexCast v132
  let c16_148 : Index := 16#32
  ![v144.toNat, 16]
def k0_off105 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32 : BitVec 32 := 4#32
  let v131 : BitVec 32 := Scalar.muli arg21 c4_i32
  let c0_i32_144 : BitVec 32 := 0#32
  let v132 : BitVec 32 := Scalar.addi v131 c0_i32_144
  let v147 : Index := Scalar.indexCast v132
  let c32_149 : Index := 32#32
  ![v147.toNat, 32]
def k0_off106 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32 : BitVec 32 := 4#32
  let v131 : BitVec 32 := Scalar.muli arg21 c4_i32
  let c0_i32_144 : BitVec 32 := 0#32
  let v132 : BitVec 32 := Scalar.addi v131 c0_i32_144
  let v150 : Index := Scalar.indexCast v132
  let c48_150 : Index := 48#32
  ![v150.toNat, 48]
def k0_off107 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32 : BitVec 32 := 4#32
  let v131 : BitVec 32 := Scalar.muli arg21 c4_i32
  let c0_i32_144 : BitVec 32 := 0#32
  let v132 : BitVec 32 := Scalar.addi v131 c0_i32_144
  let v153 : Index := Scalar.indexCast v132
  let c64_151 : Index := 64#32
  ![v153.toNat, 64]

def k0_chk13 (v3 : IVec S16 32) (v4 : IVec S16 32) (v5 : IVec S16 32) (v6 : IVec S16 32) (v7 : IVec S16 32) (v8 : IVec S16 32) (v9 : IVec S16 32) (v10 : IVec S16 32) (v133 : IVec S16 32) : Prop :=
  (∀ a x, ((![v133, v3] : Fin 2 → IVec S16 32) a x).toNat < S64x256.size a) ∧
  (∀ a x, ((![v133, v4] : Fin 2 → IVec S16 32) a x).toNat < S64x256.size a) ∧
  (∀ a x, ((![v133, v5] : Fin 2 → IVec S16 32) a x).toNat < S64x256.size a) ∧
  (∀ a x, ((![v133, v6] : Fin 2 → IVec S16 32) a x).toNat < S64x256.size a) ∧
  (∀ a x, ((![v133, v7] : Fin 2 → IVec S16 32) a x).toNat < S64x256.size a) ∧
  (∀ a x, ((![v133, v8] : Fin 2 → IVec S16 32) a x).toNat < S64x256.size a) ∧
  (∀ a x, ((![v133, v9] : Fin 2 → IVec S16 32) a x).toNat < S64x256.size a) ∧
  (∀ a x, ((![v133, v10] : Fin 2 → IVec S16 32) a x).toNat < S64x256.size a)
theorem k0_idx97_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw13 : k0_chk13 v3 v4 v5 v6 v7 v8 v9 v10 v133), ∀ a x, ((![v133, v3] : Fin 2 → IVec S16 32) a x).toNat < S64x256.size a := fun v3 v4 v5 v6 v7 v8 v9 v10 v133 k0_hw13 => k0_hw13.1
theorem k0_idx98_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw13 : k0_chk13 v3 v4 v5 v6 v7 v8 v9 v10 v133), ∀ a x, ((![v133, v4] : Fin 2 → IVec S16 32) a x).toNat < S64x256.size a := fun v3 v4 v5 v6 v7 v8 v9 v10 v133 k0_hw13 => k0_hw13.2.1
theorem k0_idx99_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw13 : k0_chk13 v3 v4 v5 v6 v7 v8 v9 v10 v133), ∀ a x, ((![v133, v5] : Fin 2 → IVec S16 32) a x).toNat < S64x256.size a := fun v3 v4 v5 v6 v7 v8 v9 v10 v133 k0_hw13 => k0_hw13.2.2.1
theorem k0_idx100_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw13 : k0_chk13 v3 v4 v5 v6 v7 v8 v9 v10 v133), ∀ a x, ((![v133, v6] : Fin 2 → IVec S16 32) a x).toNat < S64x256.size a := fun v3 v4 v5 v6 v7 v8 v9 v10 v133 k0_hw13 => k0_hw13.2.2.2.1
theorem k0_idx101_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw13 : k0_chk13 v3 v4 v5 v6 v7 v8 v9 v10 v133), ∀ a x, ((![v133, v7] : Fin 2 → IVec S16 32) a x).toNat < S64x256.size a := fun v3 v4 v5 v6 v7 v8 v9 v10 v133 k0_hw13 => k0_hw13.2.2.2.2.1
theorem k0_idx102_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw13 : k0_chk13 v3 v4 v5 v6 v7 v8 v9 v10 v133), ∀ a x, ((![v133, v8] : Fin 2 → IVec S16 32) a x).toNat < S64x256.size a := fun v3 v4 v5 v6 v7 v8 v9 v10 v133 k0_hw13 => k0_hw13.2.2.2.2.2.1
theorem k0_idx103_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw13 : k0_chk13 v3 v4 v5 v6 v7 v8 v9 v10 v133), ∀ a x, ((![v133, v9] : Fin 2 → IVec S16 32) a x).toNat < S64x256.size a := fun v3 v4 v5 v6 v7 v8 v9 v10 v133 k0_hw13 => k0_hw13.2.2.2.2.2.2.1
theorem k0_idx104_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw13 : k0_chk13 v3 v4 v5 v6 v7 v8 v9 v10 v133), ∀ a x, ((![v133, v10] : Fin 2 → IVec S16 32) a x).toNat < S64x256.size a := fun v3 v4 v5 v6 v7 v8 v9 v10 v133 k0_hw13 => k0_hw13.2.2.2.2.2.2.2
def k0_off108 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32 : BitVec 32 := 4#32
  let v131 : BitVec 32 := Scalar.muli arg21 c4_i32
  let c0_i32_144 : BitVec 32 := 0#32
  let v132 : BitVec 32 := Scalar.addi v131 c0_i32_144
  let v156 : Index := Scalar.indexCast v132
  let c80_152 : Index := 80#32
  ![v156.toNat, 80]
def k0_off109 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_153 : BitVec 32 := 4#32
  let v158 : BitVec 32 := Scalar.muli arg21 c4_i32_153
  let c1_i32_154 : BitVec 32 := 1#32
  let v159 : BitVec 32 := Scalar.addi v158 c1_i32_154
  let v162 : Index := Scalar.indexCast v159
  let c0_155 : Index := 0#32
  ![v162.toNat, 0]
def k0_off110 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_153 : BitVec 32 := 4#32
  let v158 : BitVec 32 := Scalar.muli arg21 c4_i32_153
  let c1_i32_154 : BitVec 32 := 1#32
  let v159 : BitVec 32 := Scalar.addi v158 c1_i32_154
  let v165 : Index := Scalar.indexCast v159
  let c16_156 : Index := 16#32
  ![v165.toNat, 16]
def k0_off111 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_153 : BitVec 32 := 4#32
  let v158 : BitVec 32 := Scalar.muli arg21 c4_i32_153
  let c1_i32_154 : BitVec 32 := 1#32
  let v159 : BitVec 32 := Scalar.addi v158 c1_i32_154
  let v168 : Index := Scalar.indexCast v159
  let c0_157 : Index := 0#32
  ![v168.toNat, 0]
def k0_off112 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_153 : BitVec 32 := 4#32
  let v158 : BitVec 32 := Scalar.muli arg21 c4_i32_153
  let c1_i32_154 : BitVec 32 := 1#32
  let v159 : BitVec 32 := Scalar.addi v158 c1_i32_154
  let v171 : Index := Scalar.indexCast v159
  let c16_158 : Index := 16#32
  ![v171.toNat, 16]
def k0_off113 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_153 : BitVec 32 := 4#32
  let v158 : BitVec 32 := Scalar.muli arg21 c4_i32_153
  let c1_i32_154 : BitVec 32 := 1#32
  let v159 : BitVec 32 := Scalar.addi v158 c1_i32_154
  let v174 : Index := Scalar.indexCast v159
  let c32_159 : Index := 32#32
  ![v174.toNat, 32]
def k0_off114 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_153 : BitVec 32 := 4#32
  let v158 : BitVec 32 := Scalar.muli arg21 c4_i32_153
  let c1_i32_154 : BitVec 32 := 1#32
  let v159 : BitVec 32 := Scalar.addi v158 c1_i32_154
  let v177 : Index := Scalar.indexCast v159
  let c48_160 : Index := 48#32
  ![v177.toNat, 48]
def k0_off115 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_153 : BitVec 32 := 4#32
  let v158 : BitVec 32 := Scalar.muli arg21 c4_i32_153
  let c1_i32_154 : BitVec 32 := 1#32
  let v159 : BitVec 32 := Scalar.addi v158 c1_i32_154
  let v180 : Index := Scalar.indexCast v159
  let c64_161 : Index := 64#32
  ![v180.toNat, 64]

def k0_chk14 (v3 : IVec S16 32) (v4 : IVec S16 32) (v5 : IVec S16 32) (v6 : IVec S16 32) (v7 : IVec S16 32) (v8 : IVec S16 32) (v9 : IVec S16 32) (v10 : IVec S16 32) (v160 : IVec S16 32) : Prop :=
  (∀ a x, ((![v160, v3] : Fin 2 → IVec S16 32) a x).toNat < S64x256.size a) ∧
  (∀ a x, ((![v160, v4] : Fin 2 → IVec S16 32) a x).toNat < S64x256.size a) ∧
  (∀ a x, ((![v160, v5] : Fin 2 → IVec S16 32) a x).toNat < S64x256.size a) ∧
  (∀ a x, ((![v160, v6] : Fin 2 → IVec S16 32) a x).toNat < S64x256.size a) ∧
  (∀ a x, ((![v160, v7] : Fin 2 → IVec S16 32) a x).toNat < S64x256.size a) ∧
  (∀ a x, ((![v160, v8] : Fin 2 → IVec S16 32) a x).toNat < S64x256.size a) ∧
  (∀ a x, ((![v160, v9] : Fin 2 → IVec S16 32) a x).toNat < S64x256.size a) ∧
  (∀ a x, ((![v160, v10] : Fin 2 → IVec S16 32) a x).toNat < S64x256.size a)
theorem k0_idx105_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw14 : k0_chk14 v3 v4 v5 v6 v7 v8 v9 v10 v160), ∀ a x, ((![v160, v3] : Fin 2 → IVec S16 32) a x).toNat < S64x256.size a := fun v3 v4 v5 v6 v7 v8 v9 v10 v160 k0_hw14 => k0_hw14.1
theorem k0_idx106_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw14 : k0_chk14 v3 v4 v5 v6 v7 v8 v9 v10 v160), ∀ a x, ((![v160, v4] : Fin 2 → IVec S16 32) a x).toNat < S64x256.size a := fun v3 v4 v5 v6 v7 v8 v9 v10 v160 k0_hw14 => k0_hw14.2.1
theorem k0_idx107_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw14 : k0_chk14 v3 v4 v5 v6 v7 v8 v9 v10 v160), ∀ a x, ((![v160, v5] : Fin 2 → IVec S16 32) a x).toNat < S64x256.size a := fun v3 v4 v5 v6 v7 v8 v9 v10 v160 k0_hw14 => k0_hw14.2.2.1
theorem k0_idx108_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw14 : k0_chk14 v3 v4 v5 v6 v7 v8 v9 v10 v160), ∀ a x, ((![v160, v6] : Fin 2 → IVec S16 32) a x).toNat < S64x256.size a := fun v3 v4 v5 v6 v7 v8 v9 v10 v160 k0_hw14 => k0_hw14.2.2.2.1
theorem k0_idx109_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw14 : k0_chk14 v3 v4 v5 v6 v7 v8 v9 v10 v160), ∀ a x, ((![v160, v7] : Fin 2 → IVec S16 32) a x).toNat < S64x256.size a := fun v3 v4 v5 v6 v7 v8 v9 v10 v160 k0_hw14 => k0_hw14.2.2.2.2.1
theorem k0_idx110_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw14 : k0_chk14 v3 v4 v5 v6 v7 v8 v9 v10 v160), ∀ a x, ((![v160, v8] : Fin 2 → IVec S16 32) a x).toNat < S64x256.size a := fun v3 v4 v5 v6 v7 v8 v9 v10 v160 k0_hw14 => k0_hw14.2.2.2.2.2.1
theorem k0_idx111_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw14 : k0_chk14 v3 v4 v5 v6 v7 v8 v9 v10 v160), ∀ a x, ((![v160, v9] : Fin 2 → IVec S16 32) a x).toNat < S64x256.size a := fun v3 v4 v5 v6 v7 v8 v9 v10 v160 k0_hw14 => k0_hw14.2.2.2.2.2.2.1
theorem k0_idx112_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw14 : k0_chk14 v3 v4 v5 v6 v7 v8 v9 v10 v160), ∀ a x, ((![v160, v10] : Fin 2 → IVec S16 32) a x).toNat < S64x256.size a := fun v3 v4 v5 v6 v7 v8 v9 v10 v160 k0_hw14 => k0_hw14.2.2.2.2.2.2.2
def k0_off116 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_153 : BitVec 32 := 4#32
  let v158 : BitVec 32 := Scalar.muli arg21 c4_i32_153
  let c1_i32_154 : BitVec 32 := 1#32
  let v159 : BitVec 32 := Scalar.addi v158 c1_i32_154
  let v183 : Index := Scalar.indexCast v159
  let c80_162 : Index := 80#32
  ![v183.toNat, 80]
def k0_off117 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_163 : BitVec 32 := 4#32
  let v185 : BitVec 32 := Scalar.muli arg21 c4_i32_163
  let c2_i32_164 : BitVec 32 := 2#32
  let v186 : BitVec 32 := Scalar.addi v185 c2_i32_164
  let v189 : Index := Scalar.indexCast v186
  let c0_165 : Index := 0#32
  ![v189.toNat, 0]
def k0_off118 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_163 : BitVec 32 := 4#32
  let v185 : BitVec 32 := Scalar.muli arg21 c4_i32_163
  let c2_i32_164 : BitVec 32 := 2#32
  let v186 : BitVec 32 := Scalar.addi v185 c2_i32_164
  let v192 : Index := Scalar.indexCast v186
  let c16_166 : Index := 16#32
  ![v192.toNat, 16]
def k0_off119 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_163 : BitVec 32 := 4#32
  let v185 : BitVec 32 := Scalar.muli arg21 c4_i32_163
  let c2_i32_164 : BitVec 32 := 2#32
  let v186 : BitVec 32 := Scalar.addi v185 c2_i32_164
  let v195 : Index := Scalar.indexCast v186
  let c0_167 : Index := 0#32
  ![v195.toNat, 0]
def k0_off120 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_163 : BitVec 32 := 4#32
  let v185 : BitVec 32 := Scalar.muli arg21 c4_i32_163
  let c2_i32_164 : BitVec 32 := 2#32
  let v186 : BitVec 32 := Scalar.addi v185 c2_i32_164
  let v198 : Index := Scalar.indexCast v186
  let c16_168 : Index := 16#32
  ![v198.toNat, 16]
def k0_off121 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_163 : BitVec 32 := 4#32
  let v185 : BitVec 32 := Scalar.muli arg21 c4_i32_163
  let c2_i32_164 : BitVec 32 := 2#32
  let v186 : BitVec 32 := Scalar.addi v185 c2_i32_164
  let v201 : Index := Scalar.indexCast v186
  let c32_169 : Index := 32#32
  ![v201.toNat, 32]
def k0_off122 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_163 : BitVec 32 := 4#32
  let v185 : BitVec 32 := Scalar.muli arg21 c4_i32_163
  let c2_i32_164 : BitVec 32 := 2#32
  let v186 : BitVec 32 := Scalar.addi v185 c2_i32_164
  let v204 : Index := Scalar.indexCast v186
  let c48_170 : Index := 48#32
  ![v204.toNat, 48]
def k0_off123 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_163 : BitVec 32 := 4#32
  let v185 : BitVec 32 := Scalar.muli arg21 c4_i32_163
  let c2_i32_164 : BitVec 32 := 2#32
  let v186 : BitVec 32 := Scalar.addi v185 c2_i32_164
  let v207 : Index := Scalar.indexCast v186
  let c64_171 : Index := 64#32
  ![v207.toNat, 64]

def k0_chk15 (v3 : IVec S16 32) (v4 : IVec S16 32) (v5 : IVec S16 32) (v6 : IVec S16 32) (v7 : IVec S16 32) (v8 : IVec S16 32) (v9 : IVec S16 32) (v10 : IVec S16 32) (v187 : IVec S16 32) : Prop :=
  (∀ a x, ((![v187, v3] : Fin 2 → IVec S16 32) a x).toNat < S64x256.size a) ∧
  (∀ a x, ((![v187, v4] : Fin 2 → IVec S16 32) a x).toNat < S64x256.size a) ∧
  (∀ a x, ((![v187, v5] : Fin 2 → IVec S16 32) a x).toNat < S64x256.size a) ∧
  (∀ a x, ((![v187, v6] : Fin 2 → IVec S16 32) a x).toNat < S64x256.size a) ∧
  (∀ a x, ((![v187, v7] : Fin 2 → IVec S16 32) a x).toNat < S64x256.size a) ∧
  (∀ a x, ((![v187, v8] : Fin 2 → IVec S16 32) a x).toNat < S64x256.size a) ∧
  (∀ a x, ((![v187, v9] : Fin 2 → IVec S16 32) a x).toNat < S64x256.size a) ∧
  (∀ a x, ((![v187, v10] : Fin 2 → IVec S16 32) a x).toNat < S64x256.size a)
theorem k0_idx113_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw15 : k0_chk15 v3 v4 v5 v6 v7 v8 v9 v10 v187), ∀ a x, ((![v187, v3] : Fin 2 → IVec S16 32) a x).toNat < S64x256.size a := fun v3 v4 v5 v6 v7 v8 v9 v10 v187 k0_hw15 => k0_hw15.1
theorem k0_idx114_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw15 : k0_chk15 v3 v4 v5 v6 v7 v8 v9 v10 v187), ∀ a x, ((![v187, v4] : Fin 2 → IVec S16 32) a x).toNat < S64x256.size a := fun v3 v4 v5 v6 v7 v8 v9 v10 v187 k0_hw15 => k0_hw15.2.1
theorem k0_idx115_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw15 : k0_chk15 v3 v4 v5 v6 v7 v8 v9 v10 v187), ∀ a x, ((![v187, v5] : Fin 2 → IVec S16 32) a x).toNat < S64x256.size a := fun v3 v4 v5 v6 v7 v8 v9 v10 v187 k0_hw15 => k0_hw15.2.2.1
theorem k0_idx116_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw15 : k0_chk15 v3 v4 v5 v6 v7 v8 v9 v10 v187), ∀ a x, ((![v187, v6] : Fin 2 → IVec S16 32) a x).toNat < S64x256.size a := fun v3 v4 v5 v6 v7 v8 v9 v10 v187 k0_hw15 => k0_hw15.2.2.2.1
theorem k0_idx117_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw15 : k0_chk15 v3 v4 v5 v6 v7 v8 v9 v10 v187), ∀ a x, ((![v187, v7] : Fin 2 → IVec S16 32) a x).toNat < S64x256.size a := fun v3 v4 v5 v6 v7 v8 v9 v10 v187 k0_hw15 => k0_hw15.2.2.2.2.1
theorem k0_idx118_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw15 : k0_chk15 v3 v4 v5 v6 v7 v8 v9 v10 v187), ∀ a x, ((![v187, v8] : Fin 2 → IVec S16 32) a x).toNat < S64x256.size a := fun v3 v4 v5 v6 v7 v8 v9 v10 v187 k0_hw15 => k0_hw15.2.2.2.2.2.1
theorem k0_idx119_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw15 : k0_chk15 v3 v4 v5 v6 v7 v8 v9 v10 v187), ∀ a x, ((![v187, v9] : Fin 2 → IVec S16 32) a x).toNat < S64x256.size a := fun v3 v4 v5 v6 v7 v8 v9 v10 v187 k0_hw15 => k0_hw15.2.2.2.2.2.2.1
theorem k0_idx120_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw15 : k0_chk15 v3 v4 v5 v6 v7 v8 v9 v10 v187), ∀ a x, ((![v187, v10] : Fin 2 → IVec S16 32) a x).toNat < S64x256.size a := fun v3 v4 v5 v6 v7 v8 v9 v10 v187 k0_hw15 => k0_hw15.2.2.2.2.2.2.2
def k0_off124 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_163 : BitVec 32 := 4#32
  let v185 : BitVec 32 := Scalar.muli arg21 c4_i32_163
  let c2_i32_164 : BitVec 32 := 2#32
  let v186 : BitVec 32 := Scalar.addi v185 c2_i32_164
  let v210 : Index := Scalar.indexCast v186
  let c80_172 : Index := 80#32
  ![v210.toNat, 80]
def k0_off125 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_173 : BitVec 32 := 4#32
  let v212 : BitVec 32 := Scalar.muli arg21 c4_i32_173
  let c3_i32 : BitVec 32 := 3#32
  let v213 : BitVec 32 := Scalar.addi v212 c3_i32
  let v216 : Index := Scalar.indexCast v213
  let c0_174 : Index := 0#32
  ![v216.toNat, 0]
def k0_off126 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_173 : BitVec 32 := 4#32
  let v212 : BitVec 32 := Scalar.muli arg21 c4_i32_173
  let c3_i32 : BitVec 32 := 3#32
  let v213 : BitVec 32 := Scalar.addi v212 c3_i32
  let v219 : Index := Scalar.indexCast v213
  let c16_175 : Index := 16#32
  ![v219.toNat, 16]
def k0_off127 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_173 : BitVec 32 := 4#32
  let v212 : BitVec 32 := Scalar.muli arg21 c4_i32_173
  let c3_i32 : BitVec 32 := 3#32
  let v213 : BitVec 32 := Scalar.addi v212 c3_i32
  let v222 : Index := Scalar.indexCast v213
  let c0_176 : Index := 0#32
  ![v222.toNat, 0]
def k0_off128 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_173 : BitVec 32 := 4#32
  let v212 : BitVec 32 := Scalar.muli arg21 c4_i32_173
  let c3_i32 : BitVec 32 := 3#32
  let v213 : BitVec 32 := Scalar.addi v212 c3_i32
  let v225 : Index := Scalar.indexCast v213
  let c16_177 : Index := 16#32
  ![v225.toNat, 16]
def k0_off129 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_173 : BitVec 32 := 4#32
  let v212 : BitVec 32 := Scalar.muli arg21 c4_i32_173
  let c3_i32 : BitVec 32 := 3#32
  let v213 : BitVec 32 := Scalar.addi v212 c3_i32
  let v228 : Index := Scalar.indexCast v213
  let c32_178 : Index := 32#32
  ![v228.toNat, 32]
def k0_off130 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_173 : BitVec 32 := 4#32
  let v212 : BitVec 32 := Scalar.muli arg21 c4_i32_173
  let c3_i32 : BitVec 32 := 3#32
  let v213 : BitVec 32 := Scalar.addi v212 c3_i32
  let v231 : Index := Scalar.indexCast v213
  let c48_179 : Index := 48#32
  ![v231.toNat, 48]
def k0_off131 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_173 : BitVec 32 := 4#32
  let v212 : BitVec 32 := Scalar.muli arg21 c4_i32_173
  let c3_i32 : BitVec 32 := 3#32
  let v213 : BitVec 32 := Scalar.addi v212 c3_i32
  let v234 : Index := Scalar.indexCast v213
  let c64_180 : Index := 64#32
  ![v234.toNat, 64]

def k0_chk16 (v3 : IVec S16 32) (v4 : IVec S16 32) (v5 : IVec S16 32) (v6 : IVec S16 32) (v7 : IVec S16 32) (v8 : IVec S16 32) (v9 : IVec S16 32) (v10 : IVec S16 32) (v214 : IVec S16 32) : Prop :=
  (∀ a x, ((![v214, v3] : Fin 2 → IVec S16 32) a x).toNat < S64x256.size a) ∧
  (∀ a x, ((![v214, v4] : Fin 2 → IVec S16 32) a x).toNat < S64x256.size a) ∧
  (∀ a x, ((![v214, v5] : Fin 2 → IVec S16 32) a x).toNat < S64x256.size a) ∧
  (∀ a x, ((![v214, v6] : Fin 2 → IVec S16 32) a x).toNat < S64x256.size a) ∧
  (∀ a x, ((![v214, v7] : Fin 2 → IVec S16 32) a x).toNat < S64x256.size a) ∧
  (∀ a x, ((![v214, v8] : Fin 2 → IVec S16 32) a x).toNat < S64x256.size a) ∧
  (∀ a x, ((![v214, v9] : Fin 2 → IVec S16 32) a x).toNat < S64x256.size a) ∧
  (∀ a x, ((![v214, v10] : Fin 2 → IVec S16 32) a x).toNat < S64x256.size a)
theorem k0_idx121_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw16 : k0_chk16 v3 v4 v5 v6 v7 v8 v9 v10 v214), ∀ a x, ((![v214, v3] : Fin 2 → IVec S16 32) a x).toNat < S64x256.size a := fun v3 v4 v5 v6 v7 v8 v9 v10 v214 k0_hw16 => k0_hw16.1
theorem k0_idx122_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw16 : k0_chk16 v3 v4 v5 v6 v7 v8 v9 v10 v214), ∀ a x, ((![v214, v4] : Fin 2 → IVec S16 32) a x).toNat < S64x256.size a := fun v3 v4 v5 v6 v7 v8 v9 v10 v214 k0_hw16 => k0_hw16.2.1
theorem k0_idx123_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw16 : k0_chk16 v3 v4 v5 v6 v7 v8 v9 v10 v214), ∀ a x, ((![v214, v5] : Fin 2 → IVec S16 32) a x).toNat < S64x256.size a := fun v3 v4 v5 v6 v7 v8 v9 v10 v214 k0_hw16 => k0_hw16.2.2.1
theorem k0_idx124_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw16 : k0_chk16 v3 v4 v5 v6 v7 v8 v9 v10 v214), ∀ a x, ((![v214, v6] : Fin 2 → IVec S16 32) a x).toNat < S64x256.size a := fun v3 v4 v5 v6 v7 v8 v9 v10 v214 k0_hw16 => k0_hw16.2.2.2.1
theorem k0_idx125_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw16 : k0_chk16 v3 v4 v5 v6 v7 v8 v9 v10 v214), ∀ a x, ((![v214, v7] : Fin 2 → IVec S16 32) a x).toNat < S64x256.size a := fun v3 v4 v5 v6 v7 v8 v9 v10 v214 k0_hw16 => k0_hw16.2.2.2.2.1
theorem k0_idx126_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw16 : k0_chk16 v3 v4 v5 v6 v7 v8 v9 v10 v214), ∀ a x, ((![v214, v8] : Fin 2 → IVec S16 32) a x).toNat < S64x256.size a := fun v3 v4 v5 v6 v7 v8 v9 v10 v214 k0_hw16 => k0_hw16.2.2.2.2.2.1
theorem k0_idx127_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw16 : k0_chk16 v3 v4 v5 v6 v7 v8 v9 v10 v214), ∀ a x, ((![v214, v9] : Fin 2 → IVec S16 32) a x).toNat < S64x256.size a := fun v3 v4 v5 v6 v7 v8 v9 v10 v214 k0_hw16 => k0_hw16.2.2.2.2.2.2.1
theorem k0_idx128_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw16 : k0_chk16 v3 v4 v5 v6 v7 v8 v9 v10 v214), ∀ a x, ((![v214, v10] : Fin 2 → IVec S16 32) a x).toNat < S64x256.size a := fun v3 v4 v5 v6 v7 v8 v9 v10 v214 k0_hw16 => k0_hw16.2.2.2.2.2.2.2
def k0_off132 (k0_t4 : Fin k0_t4_loop.trips) : Fin 2 → Nat :=
  let c0_i32_57 : BitVec 32 := 0#32
  let c1_i32_59 : BitVec 32 := 1#32
  let arg21 : BitVec 32 := Scf.iv c0_i32_57 c1_i32_59 k0_t4
  let c4_i32_173 : BitVec 32 := 4#32
  let v212 : BitVec 32 := Scalar.muli arg21 c4_i32_173
  let c3_i32 : BitVec 32 := 3#32
  let v213 : BitVec 32 := Scalar.addi v212 c3_i32
  let v237 : Index := Scalar.indexCast v213
  let c80_181 : Index := 80#32
  ![v237.toNat, 80]
@[reducible] def k0_t5_loop : Scf.Loop 32 :=
  let c0_i32_75 : BitVec 32 := 0#32
  let c16_i32_76 : BitVec 32 := 16#32
  let v75 : BitVec 32 := Scalar.addi c0_i32_75 c16_i32_76
  let c1_i32_77 : BitVec 32 := 1#32
  ⟨c0_i32_75, v75, c1_i32_77⟩
def k0_off133 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32 : BitVec 32 := 4#32
  let v131 : BitVec 32 := Scalar.muli arg21 c4_i32
  let c0_i32_144 : BitVec 32 := 0#32
  let v132 : BitVec 32 := Scalar.addi v131 c0_i32_144
  let v135 : Index := Scalar.indexCast v132
  let c0_145 : Index := 0#32
  ![v135.toNat, 0]
def k0_off134 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32 : BitVec 32 := 4#32
  let v131 : BitVec 32 := Scalar.muli arg21 c4_i32
  let c0_i32_144 : BitVec 32 := 0#32
  let v132 : BitVec 32 := Scalar.addi v131 c0_i32_144
  let v138 : Index := Scalar.indexCast v132
  let c16_146 : Index := 16#32
  ![v138.toNat, 16]
def k0_off135 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32 : BitVec 32 := 4#32
  let v131 : BitVec 32 := Scalar.muli arg21 c4_i32
  let c0_i32_144 : BitVec 32 := 0#32
  let v132 : BitVec 32 := Scalar.addi v131 c0_i32_144
  let v141 : Index := Scalar.indexCast v132
  let c0_147 : Index := 0#32
  ![v141.toNat, 0]
def k0_off136 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32 : BitVec 32 := 4#32
  let v131 : BitVec 32 := Scalar.muli arg21 c4_i32
  let c0_i32_144 : BitVec 32 := 0#32
  let v132 : BitVec 32 := Scalar.addi v131 c0_i32_144
  let v144 : Index := Scalar.indexCast v132
  let c16_148 : Index := 16#32
  ![v144.toNat, 16]
def k0_off137 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32 : BitVec 32 := 4#32
  let v131 : BitVec 32 := Scalar.muli arg21 c4_i32
  let c0_i32_144 : BitVec 32 := 0#32
  let v132 : BitVec 32 := Scalar.addi v131 c0_i32_144
  let v147 : Index := Scalar.indexCast v132
  let c32_149 : Index := 32#32
  ![v147.toNat, 32]
def k0_off138 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32 : BitVec 32 := 4#32
  let v131 : BitVec 32 := Scalar.muli arg21 c4_i32
  let c0_i32_144 : BitVec 32 := 0#32
  let v132 : BitVec 32 := Scalar.addi v131 c0_i32_144
  let v150 : Index := Scalar.indexCast v132
  let c48_150 : Index := 48#32
  ![v150.toNat, 48]
def k0_off139 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32 : BitVec 32 := 4#32
  let v131 : BitVec 32 := Scalar.muli arg21 c4_i32
  let c0_i32_144 : BitVec 32 := 0#32
  let v132 : BitVec 32 := Scalar.addi v131 c0_i32_144
  let v153 : Index := Scalar.indexCast v132
  let c64_151 : Index := 64#32
  ![v153.toNat, 64]

def k0_chk17 (v3 : IVec S16 32) (v4 : IVec S16 32) (v5 : IVec S16 32) (v6 : IVec S16 32) (v7 : IVec S16 32) (v8 : IVec S16 32) (v9 : IVec S16 32) (v10 : IVec S16 32) (v133 : IVec S16 32) : Prop :=
  (∀ a x, ((![v133, v3] : Fin 2 → IVec S16 32) a x).toNat < S64x256.size a) ∧
  (∀ a x, ((![v133, v4] : Fin 2 → IVec S16 32) a x).toNat < S64x256.size a) ∧
  (∀ a x, ((![v133, v5] : Fin 2 → IVec S16 32) a x).toNat < S64x256.size a) ∧
  (∀ a x, ((![v133, v6] : Fin 2 → IVec S16 32) a x).toNat < S64x256.size a) ∧
  (∀ a x, ((![v133, v7] : Fin 2 → IVec S16 32) a x).toNat < S64x256.size a) ∧
  (∀ a x, ((![v133, v8] : Fin 2 → IVec S16 32) a x).toNat < S64x256.size a) ∧
  (∀ a x, ((![v133, v9] : Fin 2 → IVec S16 32) a x).toNat < S64x256.size a) ∧
  (∀ a x, ((![v133, v10] : Fin 2 → IVec S16 32) a x).toNat < S64x256.size a)
theorem k0_idx129_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw17 : k0_chk17 v3 v4 v5 v6 v7 v8 v9 v10 v133), ∀ a x, ((![v133, v3] : Fin 2 → IVec S16 32) a x).toNat < S64x256.size a := fun v3 v4 v5 v6 v7 v8 v9 v10 v133 k0_hw17 => k0_hw17.1
theorem k0_idx130_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw17 : k0_chk17 v3 v4 v5 v6 v7 v8 v9 v10 v133), ∀ a x, ((![v133, v4] : Fin 2 → IVec S16 32) a x).toNat < S64x256.size a := fun v3 v4 v5 v6 v7 v8 v9 v10 v133 k0_hw17 => k0_hw17.2.1
theorem k0_idx131_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw17 : k0_chk17 v3 v4 v5 v6 v7 v8 v9 v10 v133), ∀ a x, ((![v133, v5] : Fin 2 → IVec S16 32) a x).toNat < S64x256.size a := fun v3 v4 v5 v6 v7 v8 v9 v10 v133 k0_hw17 => k0_hw17.2.2.1
theorem k0_idx132_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw17 : k0_chk17 v3 v4 v5 v6 v7 v8 v9 v10 v133), ∀ a x, ((![v133, v6] : Fin 2 → IVec S16 32) a x).toNat < S64x256.size a := fun v3 v4 v5 v6 v7 v8 v9 v10 v133 k0_hw17 => k0_hw17.2.2.2.1
theorem k0_idx133_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw17 : k0_chk17 v3 v4 v5 v6 v7 v8 v9 v10 v133), ∀ a x, ((![v133, v7] : Fin 2 → IVec S16 32) a x).toNat < S64x256.size a := fun v3 v4 v5 v6 v7 v8 v9 v10 v133 k0_hw17 => k0_hw17.2.2.2.2.1
theorem k0_idx134_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw17 : k0_chk17 v3 v4 v5 v6 v7 v8 v9 v10 v133), ∀ a x, ((![v133, v8] : Fin 2 → IVec S16 32) a x).toNat < S64x256.size a := fun v3 v4 v5 v6 v7 v8 v9 v10 v133 k0_hw17 => k0_hw17.2.2.2.2.2.1
theorem k0_idx135_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw17 : k0_chk17 v3 v4 v5 v6 v7 v8 v9 v10 v133), ∀ a x, ((![v133, v9] : Fin 2 → IVec S16 32) a x).toNat < S64x256.size a := fun v3 v4 v5 v6 v7 v8 v9 v10 v133 k0_hw17 => k0_hw17.2.2.2.2.2.2.1
theorem k0_idx136_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw17 : k0_chk17 v3 v4 v5 v6 v7 v8 v9 v10 v133), ∀ a x, ((![v133, v10] : Fin 2 → IVec S16 32) a x).toNat < S64x256.size a := fun v3 v4 v5 v6 v7 v8 v9 v10 v133 k0_hw17 => k0_hw17.2.2.2.2.2.2.2
def k0_off140 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32 : BitVec 32 := 4#32
  let v131 : BitVec 32 := Scalar.muli arg21 c4_i32
  let c0_i32_144 : BitVec 32 := 0#32
  let v132 : BitVec 32 := Scalar.addi v131 c0_i32_144
  let v156 : Index := Scalar.indexCast v132
  let c80_152 : Index := 80#32
  ![v156.toNat, 80]
def k0_off141 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_153 : BitVec 32 := 4#32
  let v158 : BitVec 32 := Scalar.muli arg21 c4_i32_153
  let c1_i32_154 : BitVec 32 := 1#32
  let v159 : BitVec 32 := Scalar.addi v158 c1_i32_154
  let v162 : Index := Scalar.indexCast v159
  let c0_155 : Index := 0#32
  ![v162.toNat, 0]
def k0_off142 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_153 : BitVec 32 := 4#32
  let v158 : BitVec 32 := Scalar.muli arg21 c4_i32_153
  let c1_i32_154 : BitVec 32 := 1#32
  let v159 : BitVec 32 := Scalar.addi v158 c1_i32_154
  let v165 : Index := Scalar.indexCast v159
  let c16_156 : Index := 16#32
  ![v165.toNat, 16]
def k0_off143 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_153 : BitVec 32 := 4#32
  let v158 : BitVec 32 := Scalar.muli arg21 c4_i32_153
  let c1_i32_154 : BitVec 32 := 1#32
  let v159 : BitVec 32 := Scalar.addi v158 c1_i32_154
  let v168 : Index := Scalar.indexCast v159
  let c0_157 : Index := 0#32
  ![v168.toNat, 0]
def k0_off144 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_153 : BitVec 32 := 4#32
  let v158 : BitVec 32 := Scalar.muli arg21 c4_i32_153
  let c1_i32_154 : BitVec 32 := 1#32
  let v159 : BitVec 32 := Scalar.addi v158 c1_i32_154
  let v171 : Index := Scalar.indexCast v159
  let c16_158 : Index := 16#32
  ![v171.toNat, 16]
def k0_off145 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_153 : BitVec 32 := 4#32
  let v158 : BitVec 32 := Scalar.muli arg21 c4_i32_153
  let c1_i32_154 : BitVec 32 := 1#32
  let v159 : BitVec 32 := Scalar.addi v158 c1_i32_154
  let v174 : Index := Scalar.indexCast v159
  let c32_159 : Index := 32#32
  ![v174.toNat, 32]
def k0_off146 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_153 : BitVec 32 := 4#32
  let v158 : BitVec 32 := Scalar.muli arg21 c4_i32_153
  let c1_i32_154 : BitVec 32 := 1#32
  let v159 : BitVec 32 := Scalar.addi v158 c1_i32_154
  let v177 : Index := Scalar.indexCast v159
  let c48_160 : Index := 48#32
  ![v177.toNat, 48]
def k0_off147 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_153 : BitVec 32 := 4#32
  let v158 : BitVec 32 := Scalar.muli arg21 c4_i32_153
  let c1_i32_154 : BitVec 32 := 1#32
  let v159 : BitVec 32 := Scalar.addi v158 c1_i32_154
  let v180 : Index := Scalar.indexCast v159
  let c64_161 : Index := 64#32
  ![v180.toNat, 64]

def k0_chk18 (v3 : IVec S16 32) (v4 : IVec S16 32) (v5 : IVec S16 32) (v6 : IVec S16 32) (v7 : IVec S16 32) (v8 : IVec S16 32) (v9 : IVec S16 32) (v10 : IVec S16 32) (v160 : IVec S16 32) : Prop :=
  (∀ a x, ((![v160, v3] : Fin 2 → IVec S16 32) a x).toNat < S64x256.size a) ∧
  (∀ a x, ((![v160, v4] : Fin 2 → IVec S16 32) a x).toNat < S64x256.size a) ∧
  (∀ a x, ((![v160, v5] : Fin 2 → IVec S16 32) a x).toNat < S64x256.size a) ∧
  (∀ a x, ((![v160, v6] : Fin 2 → IVec S16 32) a x).toNat < S64x256.size a) ∧
  (∀ a x, ((![v160, v7] : Fin 2 → IVec S16 32) a x).toNat < S64x256.size a) ∧
  (∀ a x, ((![v160, v8] : Fin 2 → IVec S16 32) a x).toNat < S64x256.size a) ∧
  (∀ a x, ((![v160, v9] : Fin 2 → IVec S16 32) a x).toNat < S64x256.size a) ∧
  (∀ a x, ((![v160, v10] : Fin 2 → IVec S16 32) a x).toNat < S64x256.size a)
theorem k0_idx137_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw18 : k0_chk18 v3 v4 v5 v6 v7 v8 v9 v10 v160), ∀ a x, ((![v160, v3] : Fin 2 → IVec S16 32) a x).toNat < S64x256.size a := fun v3 v4 v5 v6 v7 v8 v9 v10 v160 k0_hw18 => k0_hw18.1
theorem k0_idx138_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw18 : k0_chk18 v3 v4 v5 v6 v7 v8 v9 v10 v160), ∀ a x, ((![v160, v4] : Fin 2 → IVec S16 32) a x).toNat < S64x256.size a := fun v3 v4 v5 v6 v7 v8 v9 v10 v160 k0_hw18 => k0_hw18.2.1
theorem k0_idx139_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw18 : k0_chk18 v3 v4 v5 v6 v7 v8 v9 v10 v160), ∀ a x, ((![v160, v5] : Fin 2 → IVec S16 32) a x).toNat < S64x256.size a := fun v3 v4 v5 v6 v7 v8 v9 v10 v160 k0_hw18 => k0_hw18.2.2.1
theorem k0_idx140_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw18 : k0_chk18 v3 v4 v5 v6 v7 v8 v9 v10 v160), ∀ a x, ((![v160, v6] : Fin 2 → IVec S16 32) a x).toNat < S64x256.size a := fun v3 v4 v5 v6 v7 v8 v9 v10 v160 k0_hw18 => k0_hw18.2.2.2.1
theorem k0_idx141_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw18 : k0_chk18 v3 v4 v5 v6 v7 v8 v9 v10 v160), ∀ a x, ((![v160, v7] : Fin 2 → IVec S16 32) a x).toNat < S64x256.size a := fun v3 v4 v5 v6 v7 v8 v9 v10 v160 k0_hw18 => k0_hw18.2.2.2.2.1
theorem k0_idx142_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw18 : k0_chk18 v3 v4 v5 v6 v7 v8 v9 v10 v160), ∀ a x, ((![v160, v8] : Fin 2 → IVec S16 32) a x).toNat < S64x256.size a := fun v3 v4 v5 v6 v7 v8 v9 v10 v160 k0_hw18 => k0_hw18.2.2.2.2.2.1
theorem k0_idx143_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw18 : k0_chk18 v3 v4 v5 v6 v7 v8 v9 v10 v160), ∀ a x, ((![v160, v9] : Fin 2 → IVec S16 32) a x).toNat < S64x256.size a := fun v3 v4 v5 v6 v7 v8 v9 v10 v160 k0_hw18 => k0_hw18.2.2.2.2.2.2.1
theorem k0_idx144_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw18 : k0_chk18 v3 v4 v5 v6 v7 v8 v9 v10 v160), ∀ a x, ((![v160, v10] : Fin 2 → IVec S16 32) a x).toNat < S64x256.size a := fun v3 v4 v5 v6 v7 v8 v9 v10 v160 k0_hw18 => k0_hw18.2.2.2.2.2.2.2
def k0_off148 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_153 : BitVec 32 := 4#32
  let v158 : BitVec 32 := Scalar.muli arg21 c4_i32_153
  let c1_i32_154 : BitVec 32 := 1#32
  let v159 : BitVec 32 := Scalar.addi v158 c1_i32_154
  let v183 : Index := Scalar.indexCast v159
  let c80_162 : Index := 80#32
  ![v183.toNat, 80]
def k0_off149 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_163 : BitVec 32 := 4#32
  let v185 : BitVec 32 := Scalar.muli arg21 c4_i32_163
  let c2_i32_164 : BitVec 32 := 2#32
  let v186 : BitVec 32 := Scalar.addi v185 c2_i32_164
  let v189 : Index := Scalar.indexCast v186
  let c0_165 : Index := 0#32
  ![v189.toNat, 0]
def k0_off150 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_163 : BitVec 32 := 4#32
  let v185 : BitVec 32 := Scalar.muli arg21 c4_i32_163
  let c2_i32_164 : BitVec 32 := 2#32
  let v186 : BitVec 32 := Scalar.addi v185 c2_i32_164
  let v192 : Index := Scalar.indexCast v186
  let c16_166 : Index := 16#32
  ![v192.toNat, 16]
def k0_off151 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_163 : BitVec 32 := 4#32
  let v185 : BitVec 32 := Scalar.muli arg21 c4_i32_163
  let c2_i32_164 : BitVec 32 := 2#32
  let v186 : BitVec 32 := Scalar.addi v185 c2_i32_164
  let v195 : Index := Scalar.indexCast v186
  let c0_167 : Index := 0#32
  ![v195.toNat, 0]
def k0_off152 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_163 : BitVec 32 := 4#32
  let v185 : BitVec 32 := Scalar.muli arg21 c4_i32_163
  let c2_i32_164 : BitVec 32 := 2#32
  let v186 : BitVec 32 := Scalar.addi v185 c2_i32_164
  let v198 : Index := Scalar.indexCast v186
  let c16_168 : Index := 16#32
  ![v198.toNat, 16]
def k0_off153 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_163 : BitVec 32 := 4#32
  let v185 : BitVec 32 := Scalar.muli arg21 c4_i32_163
  let c2_i32_164 : BitVec 32 := 2#32
  let v186 : BitVec 32 := Scalar.addi v185 c2_i32_164
  let v201 : Index := Scalar.indexCast v186
  let c32_169 : Index := 32#32
  ![v201.toNat, 32]
def k0_off154 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_163 : BitVec 32 := 4#32
  let v185 : BitVec 32 := Scalar.muli arg21 c4_i32_163
  let c2_i32_164 : BitVec 32 := 2#32
  let v186 : BitVec 32 := Scalar.addi v185 c2_i32_164
  let v204 : Index := Scalar.indexCast v186
  let c48_170 : Index := 48#32
  ![v204.toNat, 48]
def k0_off155 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_163 : BitVec 32 := 4#32
  let v185 : BitVec 32 := Scalar.muli arg21 c4_i32_163
  let c2_i32_164 : BitVec 32 := 2#32
  let v186 : BitVec 32 := Scalar.addi v185 c2_i32_164
  let v207 : Index := Scalar.indexCast v186
  let c64_171 : Index := 64#32
  ![v207.toNat, 64]

def k0_chk19 (v3 : IVec S16 32) (v4 : IVec S16 32) (v5 : IVec S16 32) (v6 : IVec S16 32) (v7 : IVec S16 32) (v8 : IVec S16 32) (v9 : IVec S16 32) (v10 : IVec S16 32) (v187 : IVec S16 32) : Prop :=
  (∀ a x, ((![v187, v3] : Fin 2 → IVec S16 32) a x).toNat < S64x256.size a) ∧
  (∀ a x, ((![v187, v4] : Fin 2 → IVec S16 32) a x).toNat < S64x256.size a) ∧
  (∀ a x, ((![v187, v5] : Fin 2 → IVec S16 32) a x).toNat < S64x256.size a) ∧
  (∀ a x, ((![v187, v6] : Fin 2 → IVec S16 32) a x).toNat < S64x256.size a) ∧
  (∀ a x, ((![v187, v7] : Fin 2 → IVec S16 32) a x).toNat < S64x256.size a) ∧
  (∀ a x, ((![v187, v8] : Fin 2 → IVec S16 32) a x).toNat < S64x256.size a) ∧
  (∀ a x, ((![v187, v9] : Fin 2 → IVec S16 32) a x).toNat < S64x256.size a) ∧
  (∀ a x, ((![v187, v10] : Fin 2 → IVec S16 32) a x).toNat < S64x256.size a)
theorem k0_idx145_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw19 : k0_chk19 v3 v4 v5 v6 v7 v8 v9 v10 v187), ∀ a x, ((![v187, v3] : Fin 2 → IVec S16 32) a x).toNat < S64x256.size a := fun v3 v4 v5 v6 v7 v8 v9 v10 v187 k0_hw19 => k0_hw19.1
theorem k0_idx146_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw19 : k0_chk19 v3 v4 v5 v6 v7 v8 v9 v10 v187), ∀ a x, ((![v187, v4] : Fin 2 → IVec S16 32) a x).toNat < S64x256.size a := fun v3 v4 v5 v6 v7 v8 v9 v10 v187 k0_hw19 => k0_hw19.2.1
theorem k0_idx147_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw19 : k0_chk19 v3 v4 v5 v6 v7 v8 v9 v10 v187), ∀ a x, ((![v187, v5] : Fin 2 → IVec S16 32) a x).toNat < S64x256.size a := fun v3 v4 v5 v6 v7 v8 v9 v10 v187 k0_hw19 => k0_hw19.2.2.1
theorem k0_idx148_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw19 : k0_chk19 v3 v4 v5 v6 v7 v8 v9 v10 v187), ∀ a x, ((![v187, v6] : Fin 2 → IVec S16 32) a x).toNat < S64x256.size a := fun v3 v4 v5 v6 v7 v8 v9 v10 v187 k0_hw19 => k0_hw19.2.2.2.1
theorem k0_idx149_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw19 : k0_chk19 v3 v4 v5 v6 v7 v8 v9 v10 v187), ∀ a x, ((![v187, v7] : Fin 2 → IVec S16 32) a x).toNat < S64x256.size a := fun v3 v4 v5 v6 v7 v8 v9 v10 v187 k0_hw19 => k0_hw19.2.2.2.2.1
theorem k0_idx150_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw19 : k0_chk19 v3 v4 v5 v6 v7 v8 v9 v10 v187), ∀ a x, ((![v187, v8] : Fin 2 → IVec S16 32) a x).toNat < S64x256.size a := fun v3 v4 v5 v6 v7 v8 v9 v10 v187 k0_hw19 => k0_hw19.2.2.2.2.2.1
theorem k0_idx151_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw19 : k0_chk19 v3 v4 v5 v6 v7 v8 v9 v10 v187), ∀ a x, ((![v187, v9] : Fin 2 → IVec S16 32) a x).toNat < S64x256.size a := fun v3 v4 v5 v6 v7 v8 v9 v10 v187 k0_hw19 => k0_hw19.2.2.2.2.2.2.1
theorem k0_idx152_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw19 : k0_chk19 v3 v4 v5 v6 v7 v8 v9 v10 v187), ∀ a x, ((![v187, v10] : Fin 2 → IVec S16 32) a x).toNat < S64x256.size a := fun v3 v4 v5 v6 v7 v8 v9 v10 v187 k0_hw19 => k0_hw19.2.2.2.2.2.2.2
def k0_off156 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_163 : BitVec 32 := 4#32
  let v185 : BitVec 32 := Scalar.muli arg21 c4_i32_163
  let c2_i32_164 : BitVec 32 := 2#32
  let v186 : BitVec 32 := Scalar.addi v185 c2_i32_164
  let v210 : Index := Scalar.indexCast v186
  let c80_172 : Index := 80#32
  ![v210.toNat, 80]
def k0_off157 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_173 : BitVec 32 := 4#32
  let v212 : BitVec 32 := Scalar.muli arg21 c4_i32_173
  let c3_i32 : BitVec 32 := 3#32
  let v213 : BitVec 32 := Scalar.addi v212 c3_i32
  let v216 : Index := Scalar.indexCast v213
  let c0_174 : Index := 0#32
  ![v216.toNat, 0]
def k0_off158 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_173 : BitVec 32 := 4#32
  let v212 : BitVec 32 := Scalar.muli arg21 c4_i32_173
  let c3_i32 : BitVec 32 := 3#32
  let v213 : BitVec 32 := Scalar.addi v212 c3_i32
  let v219 : Index := Scalar.indexCast v213
  let c16_175 : Index := 16#32
  ![v219.toNat, 16]
def k0_off159 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_173 : BitVec 32 := 4#32
  let v212 : BitVec 32 := Scalar.muli arg21 c4_i32_173
  let c3_i32 : BitVec 32 := 3#32
  let v213 : BitVec 32 := Scalar.addi v212 c3_i32
  let v222 : Index := Scalar.indexCast v213
  let c0_176 : Index := 0#32
  ![v222.toNat, 0]
def k0_off160 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_173 : BitVec 32 := 4#32
  let v212 : BitVec 32 := Scalar.muli arg21 c4_i32_173
  let c3_i32 : BitVec 32 := 3#32
  let v213 : BitVec 32 := Scalar.addi v212 c3_i32
  let v225 : Index := Scalar.indexCast v213
  let c16_177 : Index := 16#32
  ![v225.toNat, 16]
def k0_off161 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_173 : BitVec 32 := 4#32
  let v212 : BitVec 32 := Scalar.muli arg21 c4_i32_173
  let c3_i32 : BitVec 32 := 3#32
  let v213 : BitVec 32 := Scalar.addi v212 c3_i32
  let v228 : Index := Scalar.indexCast v213
  let c32_178 : Index := 32#32
  ![v228.toNat, 32]
def k0_off162 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_173 : BitVec 32 := 4#32
  let v212 : BitVec 32 := Scalar.muli arg21 c4_i32_173
  let c3_i32 : BitVec 32 := 3#32
  let v213 : BitVec 32 := Scalar.addi v212 c3_i32
  let v231 : Index := Scalar.indexCast v213
  let c48_179 : Index := 48#32
  ![v231.toNat, 48]
def k0_off163 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_173 : BitVec 32 := 4#32
  let v212 : BitVec 32 := Scalar.muli arg21 c4_i32_173
  let c3_i32 : BitVec 32 := 3#32
  let v213 : BitVec 32 := Scalar.addi v212 c3_i32
  let v234 : Index := Scalar.indexCast v213
  let c64_180 : Index := 64#32
  ![v234.toNat, 64]

def k0_chk20 (v3 : IVec S16 32) (v4 : IVec S16 32) (v5 : IVec S16 32) (v6 : IVec S16 32) (v7 : IVec S16 32) (v8 : IVec S16 32) (v9 : IVec S16 32) (v10 : IVec S16 32) (v214 : IVec S16 32) : Prop :=
  (∀ a x, ((![v214, v3] : Fin 2 → IVec S16 32) a x).toNat < S64x256.size a) ∧
  (∀ a x, ((![v214, v4] : Fin 2 → IVec S16 32) a x).toNat < S64x256.size a) ∧
  (∀ a x, ((![v214, v5] : Fin 2 → IVec S16 32) a x).toNat < S64x256.size a) ∧
  (∀ a x, ((![v214, v6] : Fin 2 → IVec S16 32) a x).toNat < S64x256.size a) ∧
  (∀ a x, ((![v214, v7] : Fin 2 → IVec S16 32) a x).toNat < S64x256.size a) ∧
  (∀ a x, ((![v214, v8] : Fin 2 → IVec S16 32) a x).toNat < S64x256.size a) ∧
  (∀ a x, ((![v214, v9] : Fin 2 → IVec S16 32) a x).toNat < S64x256.size a) ∧
  (∀ a x, ((![v214, v10] : Fin 2 → IVec S16 32) a x).toNat < S64x256.size a)
theorem k0_idx153_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw20 : k0_chk20 v3 v4 v5 v6 v7 v8 v9 v10 v214), ∀ a x, ((![v214, v3] : Fin 2 → IVec S16 32) a x).toNat < S64x256.size a := fun v3 v4 v5 v6 v7 v8 v9 v10 v214 k0_hw20 => k0_hw20.1
theorem k0_idx154_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw20 : k0_chk20 v3 v4 v5 v6 v7 v8 v9 v10 v214), ∀ a x, ((![v214, v4] : Fin 2 → IVec S16 32) a x).toNat < S64x256.size a := fun v3 v4 v5 v6 v7 v8 v9 v10 v214 k0_hw20 => k0_hw20.2.1
theorem k0_idx155_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw20 : k0_chk20 v3 v4 v5 v6 v7 v8 v9 v10 v214), ∀ a x, ((![v214, v5] : Fin 2 → IVec S16 32) a x).toNat < S64x256.size a := fun v3 v4 v5 v6 v7 v8 v9 v10 v214 k0_hw20 => k0_hw20.2.2.1
theorem k0_idx156_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw20 : k0_chk20 v3 v4 v5 v6 v7 v8 v9 v10 v214), ∀ a x, ((![v214, v6] : Fin 2 → IVec S16 32) a x).toNat < S64x256.size a := fun v3 v4 v5 v6 v7 v8 v9 v10 v214 k0_hw20 => k0_hw20.2.2.2.1
theorem k0_idx157_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw20 : k0_chk20 v3 v4 v5 v6 v7 v8 v9 v10 v214), ∀ a x, ((![v214, v7] : Fin 2 → IVec S16 32) a x).toNat < S64x256.size a := fun v3 v4 v5 v6 v7 v8 v9 v10 v214 k0_hw20 => k0_hw20.2.2.2.2.1
theorem k0_idx158_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw20 : k0_chk20 v3 v4 v5 v6 v7 v8 v9 v10 v214), ∀ a x, ((![v214, v8] : Fin 2 → IVec S16 32) a x).toNat < S64x256.size a := fun v3 v4 v5 v6 v7 v8 v9 v10 v214 k0_hw20 => k0_hw20.2.2.2.2.2.1
theorem k0_idx159_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw20 : k0_chk20 v3 v4 v5 v6 v7 v8 v9 v10 v214), ∀ a x, ((![v214, v9] : Fin 2 → IVec S16 32) a x).toNat < S64x256.size a := fun v3 v4 v5 v6 v7 v8 v9 v10 v214 k0_hw20 => k0_hw20.2.2.2.2.2.2.1
theorem k0_idx160_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw20 : k0_chk20 v3 v4 v5 v6 v7 v8 v9 v10 v214), ∀ a x, ((![v214, v10] : Fin 2 → IVec S16 32) a x).toNat < S64x256.size a := fun v3 v4 v5 v6 v7 v8 v9 v10 v214 k0_hw20 => k0_hw20.2.2.2.2.2.2.2
def k0_off164 (k0_t5 : Fin k0_t5_loop.trips) : Fin 2 → Nat :=
  let c0_i32_75 : BitVec 32 := 0#32
  let c1_i32_77 : BitVec 32 := 1#32
  let arg21 : BitVec 32 := Scf.iv c0_i32_75 c1_i32_77 k0_t5
  let c4_i32_173 : BitVec 32 := 4#32
  let v212 : BitVec 32 := Scalar.muli arg21 c4_i32_173
  let c3_i32 : BitVec 32 := 3#32
  let v213 : BitVec 32 := Scalar.addi v212 c3_i32
  let v237 : Index := Scalar.indexCast v213
  let c80_181 : Index := 80#32
  ![v237.toNat, 80]
@[reducible] def k0_t6_loop : Scf.Loop 32 :=
  let c0_i32_93 : BitVec 32 := 0#32
  let c16_i32_94 : BitVec 32 := 16#32
  let v90 : BitVec 32 := Scalar.addi c0_i32_93 c16_i32_94
  let c1_i32_95 : BitVec 32 := 1#32
  ⟨c0_i32_93, v90, c1_i32_95⟩
def k0_off165 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32 : BitVec 32 := 4#32
  let v131 : BitVec 32 := Scalar.muli arg21 c4_i32
  let c0_i32_144 : BitVec 32 := 0#32
  let v132 : BitVec 32 := Scalar.addi v131 c0_i32_144
  let v135 : Index := Scalar.indexCast v132
  let c0_145 : Index := 0#32
  ![v135.toNat, 0]
def k0_off166 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32 : BitVec 32 := 4#32
  let v131 : BitVec 32 := Scalar.muli arg21 c4_i32
  let c0_i32_144 : BitVec 32 := 0#32
  let v132 : BitVec 32 := Scalar.addi v131 c0_i32_144
  let v138 : Index := Scalar.indexCast v132
  let c16_146 : Index := 16#32
  ![v138.toNat, 16]
def k0_off167 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32 : BitVec 32 := 4#32
  let v131 : BitVec 32 := Scalar.muli arg21 c4_i32
  let c0_i32_144 : BitVec 32 := 0#32
  let v132 : BitVec 32 := Scalar.addi v131 c0_i32_144
  let v141 : Index := Scalar.indexCast v132
  let c0_147 : Index := 0#32
  ![v141.toNat, 0]
def k0_off168 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32 : BitVec 32 := 4#32
  let v131 : BitVec 32 := Scalar.muli arg21 c4_i32
  let c0_i32_144 : BitVec 32 := 0#32
  let v132 : BitVec 32 := Scalar.addi v131 c0_i32_144
  let v144 : Index := Scalar.indexCast v132
  let c16_148 : Index := 16#32
  ![v144.toNat, 16]
def k0_off169 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32 : BitVec 32 := 4#32
  let v131 : BitVec 32 := Scalar.muli arg21 c4_i32
  let c0_i32_144 : BitVec 32 := 0#32
  let v132 : BitVec 32 := Scalar.addi v131 c0_i32_144
  let v147 : Index := Scalar.indexCast v132
  let c32_149 : Index := 32#32
  ![v147.toNat, 32]
def k0_off170 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32 : BitVec 32 := 4#32
  let v131 : BitVec 32 := Scalar.muli arg21 c4_i32
  let c0_i32_144 : BitVec 32 := 0#32
  let v132 : BitVec 32 := Scalar.addi v131 c0_i32_144
  let v150 : Index := Scalar.indexCast v132
  let c48_150 : Index := 48#32
  ![v150.toNat, 48]
def k0_off171 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32 : BitVec 32 := 4#32
  let v131 : BitVec 32 := Scalar.muli arg21 c4_i32
  let c0_i32_144 : BitVec 32 := 0#32
  let v132 : BitVec 32 := Scalar.addi v131 c0_i32_144
  let v153 : Index := Scalar.indexCast v132
  let c64_151 : Index := 64#32
  ![v153.toNat, 64]

def k0_chk21 (v3 : IVec S16 32) (v4 : IVec S16 32) (v5 : IVec S16 32) (v6 : IVec S16 32) (v7 : IVec S16 32) (v8 : IVec S16 32) (v9 : IVec S16 32) (v10 : IVec S16 32) (v133 : IVec S16 32) : Prop :=
  (∀ a x, ((![v133, v3] : Fin 2 → IVec S16 32) a x).toNat < S64x256.size a) ∧
  (∀ a x, ((![v133, v4] : Fin 2 → IVec S16 32) a x).toNat < S64x256.size a) ∧
  (∀ a x, ((![v133, v5] : Fin 2 → IVec S16 32) a x).toNat < S64x256.size a) ∧
  (∀ a x, ((![v133, v6] : Fin 2 → IVec S16 32) a x).toNat < S64x256.size a) ∧
  (∀ a x, ((![v133, v7] : Fin 2 → IVec S16 32) a x).toNat < S64x256.size a) ∧
  (∀ a x, ((![v133, v8] : Fin 2 → IVec S16 32) a x).toNat < S64x256.size a) ∧
  (∀ a x, ((![v133, v9] : Fin 2 → IVec S16 32) a x).toNat < S64x256.size a) ∧
  (∀ a x, ((![v133, v10] : Fin 2 → IVec S16 32) a x).toNat < S64x256.size a)
theorem k0_idx161_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw21 : k0_chk21 v3 v4 v5 v6 v7 v8 v9 v10 v133), ∀ a x, ((![v133, v3] : Fin 2 → IVec S16 32) a x).toNat < S64x256.size a := fun v3 v4 v5 v6 v7 v8 v9 v10 v133 k0_hw21 => k0_hw21.1
theorem k0_idx162_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw21 : k0_chk21 v3 v4 v5 v6 v7 v8 v9 v10 v133), ∀ a x, ((![v133, v4] : Fin 2 → IVec S16 32) a x).toNat < S64x256.size a := fun v3 v4 v5 v6 v7 v8 v9 v10 v133 k0_hw21 => k0_hw21.2.1
theorem k0_idx163_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw21 : k0_chk21 v3 v4 v5 v6 v7 v8 v9 v10 v133), ∀ a x, ((![v133, v5] : Fin 2 → IVec S16 32) a x).toNat < S64x256.size a := fun v3 v4 v5 v6 v7 v8 v9 v10 v133 k0_hw21 => k0_hw21.2.2.1
theorem k0_idx164_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw21 : k0_chk21 v3 v4 v5 v6 v7 v8 v9 v10 v133), ∀ a x, ((![v133, v6] : Fin 2 → IVec S16 32) a x).toNat < S64x256.size a := fun v3 v4 v5 v6 v7 v8 v9 v10 v133 k0_hw21 => k0_hw21.2.2.2.1
theorem k0_idx165_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw21 : k0_chk21 v3 v4 v5 v6 v7 v8 v9 v10 v133), ∀ a x, ((![v133, v7] : Fin 2 → IVec S16 32) a x).toNat < S64x256.size a := fun v3 v4 v5 v6 v7 v8 v9 v10 v133 k0_hw21 => k0_hw21.2.2.2.2.1
theorem k0_idx166_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw21 : k0_chk21 v3 v4 v5 v6 v7 v8 v9 v10 v133), ∀ a x, ((![v133, v8] : Fin 2 → IVec S16 32) a x).toNat < S64x256.size a := fun v3 v4 v5 v6 v7 v8 v9 v10 v133 k0_hw21 => k0_hw21.2.2.2.2.2.1
theorem k0_idx167_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw21 : k0_chk21 v3 v4 v5 v6 v7 v8 v9 v10 v133), ∀ a x, ((![v133, v9] : Fin 2 → IVec S16 32) a x).toNat < S64x256.size a := fun v3 v4 v5 v6 v7 v8 v9 v10 v133 k0_hw21 => k0_hw21.2.2.2.2.2.2.1
theorem k0_idx168_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw21 : k0_chk21 v3 v4 v5 v6 v7 v8 v9 v10 v133), ∀ a x, ((![v133, v10] : Fin 2 → IVec S16 32) a x).toNat < S64x256.size a := fun v3 v4 v5 v6 v7 v8 v9 v10 v133 k0_hw21 => k0_hw21.2.2.2.2.2.2.2
def k0_off172 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32 : BitVec 32 := 4#32
  let v131 : BitVec 32 := Scalar.muli arg21 c4_i32
  let c0_i32_144 : BitVec 32 := 0#32
  let v132 : BitVec 32 := Scalar.addi v131 c0_i32_144
  let v156 : Index := Scalar.indexCast v132
  let c80_152 : Index := 80#32
  ![v156.toNat, 80]
def k0_off173 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_153 : BitVec 32 := 4#32
  let v158 : BitVec 32 := Scalar.muli arg21 c4_i32_153
  let c1_i32_154 : BitVec 32 := 1#32
  let v159 : BitVec 32 := Scalar.addi v158 c1_i32_154
  let v162 : Index := Scalar.indexCast v159
  let c0_155 : Index := 0#32
  ![v162.toNat, 0]
def k0_off174 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_153 : BitVec 32 := 4#32
  let v158 : BitVec 32 := Scalar.muli arg21 c4_i32_153
  let c1_i32_154 : BitVec 32 := 1#32
  let v159 : BitVec 32 := Scalar.addi v158 c1_i32_154
  let v165 : Index := Scalar.indexCast v159
  let c16_156 : Index := 16#32
  ![v165.toNat, 16]
def k0_off175 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_153 : BitVec 32 := 4#32
  let v158 : BitVec 32 := Scalar.muli arg21 c4_i32_153
  let c1_i32_154 : BitVec 32 := 1#32
  let v159 : BitVec 32 := Scalar.addi v158 c1_i32_154
  let v168 : Index := Scalar.indexCast v159
  let c0_157 : Index := 0#32
  ![v168.toNat, 0]
def k0_off176 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_153 : BitVec 32 := 4#32
  let v158 : BitVec 32 := Scalar.muli arg21 c4_i32_153
  let c1_i32_154 : BitVec 32 := 1#32
  let v159 : BitVec 32 := Scalar.addi v158 c1_i32_154
  let v171 : Index := Scalar.indexCast v159
  let c16_158 : Index := 16#32
  ![v171.toNat, 16]
def k0_off177 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_153 : BitVec 32 := 4#32
  let v158 : BitVec 32 := Scalar.muli arg21 c4_i32_153
  let c1_i32_154 : BitVec 32 := 1#32
  let v159 : BitVec 32 := Scalar.addi v158 c1_i32_154
  let v174 : Index := Scalar.indexCast v159
  let c32_159 : Index := 32#32
  ![v174.toNat, 32]
def k0_off178 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_153 : BitVec 32 := 4#32
  let v158 : BitVec 32 := Scalar.muli arg21 c4_i32_153
  let c1_i32_154 : BitVec 32 := 1#32
  let v159 : BitVec 32 := Scalar.addi v158 c1_i32_154
  let v177 : Index := Scalar.indexCast v159
  let c48_160 : Index := 48#32
  ![v177.toNat, 48]
def k0_off179 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_153 : BitVec 32 := 4#32
  let v158 : BitVec 32 := Scalar.muli arg21 c4_i32_153
  let c1_i32_154 : BitVec 32 := 1#32
  let v159 : BitVec 32 := Scalar.addi v158 c1_i32_154
  let v180 : Index := Scalar.indexCast v159
  let c64_161 : Index := 64#32
  ![v180.toNat, 64]

def k0_chk22 (v3 : IVec S16 32) (v4 : IVec S16 32) (v5 : IVec S16 32) (v6 : IVec S16 32) (v7 : IVec S16 32) (v8 : IVec S16 32) (v9 : IVec S16 32) (v10 : IVec S16 32) (v160 : IVec S16 32) : Prop :=
  (∀ a x, ((![v160, v3] : Fin 2 → IVec S16 32) a x).toNat < S64x256.size a) ∧
  (∀ a x, ((![v160, v4] : Fin 2 → IVec S16 32) a x).toNat < S64x256.size a) ∧
  (∀ a x, ((![v160, v5] : Fin 2 → IVec S16 32) a x).toNat < S64x256.size a) ∧
  (∀ a x, ((![v160, v6] : Fin 2 → IVec S16 32) a x).toNat < S64x256.size a) ∧
  (∀ a x, ((![v160, v7] : Fin 2 → IVec S16 32) a x).toNat < S64x256.size a) ∧
  (∀ a x, ((![v160, v8] : Fin 2 → IVec S16 32) a x).toNat < S64x256.size a) ∧
  (∀ a x, ((![v160, v9] : Fin 2 → IVec S16 32) a x).toNat < S64x256.size a) ∧
  (∀ a x, ((![v160, v10] : Fin 2 → IVec S16 32) a x).toNat < S64x256.size a)
theorem k0_idx169_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw22 : k0_chk22 v3 v4 v5 v6 v7 v8 v9 v10 v160), ∀ a x, ((![v160, v3] : Fin 2 → IVec S16 32) a x).toNat < S64x256.size a := fun v3 v4 v5 v6 v7 v8 v9 v10 v160 k0_hw22 => k0_hw22.1
theorem k0_idx170_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw22 : k0_chk22 v3 v4 v5 v6 v7 v8 v9 v10 v160), ∀ a x, ((![v160, v4] : Fin 2 → IVec S16 32) a x).toNat < S64x256.size a := fun v3 v4 v5 v6 v7 v8 v9 v10 v160 k0_hw22 => k0_hw22.2.1
theorem k0_idx171_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw22 : k0_chk22 v3 v4 v5 v6 v7 v8 v9 v10 v160), ∀ a x, ((![v160, v5] : Fin 2 → IVec S16 32) a x).toNat < S64x256.size a := fun v3 v4 v5 v6 v7 v8 v9 v10 v160 k0_hw22 => k0_hw22.2.2.1
theorem k0_idx172_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw22 : k0_chk22 v3 v4 v5 v6 v7 v8 v9 v10 v160), ∀ a x, ((![v160, v6] : Fin 2 → IVec S16 32) a x).toNat < S64x256.size a := fun v3 v4 v5 v6 v7 v8 v9 v10 v160 k0_hw22 => k0_hw22.2.2.2.1
theorem k0_idx173_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw22 : k0_chk22 v3 v4 v5 v6 v7 v8 v9 v10 v160), ∀ a x, ((![v160, v7] : Fin 2 → IVec S16 32) a x).toNat < S64x256.size a := fun v3 v4 v5 v6 v7 v8 v9 v10 v160 k0_hw22 => k0_hw22.2.2.2.2.1
theorem k0_idx174_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw22 : k0_chk22 v3 v4 v5 v6 v7 v8 v9 v10 v160), ∀ a x, ((![v160, v8] : Fin 2 → IVec S16 32) a x).toNat < S64x256.size a := fun v3 v4 v5 v6 v7 v8 v9 v10 v160 k0_hw22 => k0_hw22.2.2.2.2.2.1
theorem k0_idx175_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw22 : k0_chk22 v3 v4 v5 v6 v7 v8 v9 v10 v160), ∀ a x, ((![v160, v9] : Fin 2 → IVec S16 32) a x).toNat < S64x256.size a := fun v3 v4 v5 v6 v7 v8 v9 v10 v160 k0_hw22 => k0_hw22.2.2.2.2.2.2.1
theorem k0_idx176_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw22 : k0_chk22 v3 v4 v5 v6 v7 v8 v9 v10 v160), ∀ a x, ((![v160, v10] : Fin 2 → IVec S16 32) a x).toNat < S64x256.size a := fun v3 v4 v5 v6 v7 v8 v9 v10 v160 k0_hw22 => k0_hw22.2.2.2.2.2.2.2
def k0_off180 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_153 : BitVec 32 := 4#32
  let v158 : BitVec 32 := Scalar.muli arg21 c4_i32_153
  let c1_i32_154 : BitVec 32 := 1#32
  let v159 : BitVec 32 := Scalar.addi v158 c1_i32_154
  let v183 : Index := Scalar.indexCast v159
  let c80_162 : Index := 80#32
  ![v183.toNat, 80]
def k0_off181 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_163 : BitVec 32 := 4#32
  let v185 : BitVec 32 := Scalar.muli arg21 c4_i32_163
  let c2_i32_164 : BitVec 32 := 2#32
  let v186 : BitVec 32 := Scalar.addi v185 c2_i32_164
  let v189 : Index := Scalar.indexCast v186
  let c0_165 : Index := 0#32
  ![v189.toNat, 0]
def k0_off182 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_163 : BitVec 32 := 4#32
  let v185 : BitVec 32 := Scalar.muli arg21 c4_i32_163
  let c2_i32_164 : BitVec 32 := 2#32
  let v186 : BitVec 32 := Scalar.addi v185 c2_i32_164
  let v192 : Index := Scalar.indexCast v186
  let c16_166 : Index := 16#32
  ![v192.toNat, 16]
def k0_off183 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_163 : BitVec 32 := 4#32
  let v185 : BitVec 32 := Scalar.muli arg21 c4_i32_163
  let c2_i32_164 : BitVec 32 := 2#32
  let v186 : BitVec 32 := Scalar.addi v185 c2_i32_164
  let v195 : Index := Scalar.indexCast v186
  let c0_167 : Index := 0#32
  ![v195.toNat, 0]
def k0_off184 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_163 : BitVec 32 := 4#32
  let v185 : BitVec 32 := Scalar.muli arg21 c4_i32_163
  let c2_i32_164 : BitVec 32 := 2#32
  let v186 : BitVec 32 := Scalar.addi v185 c2_i32_164
  let v198 : Index := Scalar.indexCast v186
  let c16_168 : Index := 16#32
  ![v198.toNat, 16]
def k0_off185 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_163 : BitVec 32 := 4#32
  let v185 : BitVec 32 := Scalar.muli arg21 c4_i32_163
  let c2_i32_164 : BitVec 32 := 2#32
  let v186 : BitVec 32 := Scalar.addi v185 c2_i32_164
  let v201 : Index := Scalar.indexCast v186
  let c32_169 : Index := 32#32
  ![v201.toNat, 32]
def k0_off186 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_163 : BitVec 32 := 4#32
  let v185 : BitVec 32 := Scalar.muli arg21 c4_i32_163
  let c2_i32_164 : BitVec 32 := 2#32
  let v186 : BitVec 32 := Scalar.addi v185 c2_i32_164
  let v204 : Index := Scalar.indexCast v186
  let c48_170 : Index := 48#32
  ![v204.toNat, 48]
def k0_off187 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_163 : BitVec 32 := 4#32
  let v185 : BitVec 32 := Scalar.muli arg21 c4_i32_163
  let c2_i32_164 : BitVec 32 := 2#32
  let v186 : BitVec 32 := Scalar.addi v185 c2_i32_164
  let v207 : Index := Scalar.indexCast v186
  let c64_171 : Index := 64#32
  ![v207.toNat, 64]

def k0_chk23 (v3 : IVec S16 32) (v4 : IVec S16 32) (v5 : IVec S16 32) (v6 : IVec S16 32) (v7 : IVec S16 32) (v8 : IVec S16 32) (v9 : IVec S16 32) (v10 : IVec S16 32) (v187 : IVec S16 32) : Prop :=
  (∀ a x, ((![v187, v3] : Fin 2 → IVec S16 32) a x).toNat < S64x256.size a) ∧
  (∀ a x, ((![v187, v4] : Fin 2 → IVec S16 32) a x).toNat < S64x256.size a) ∧
  (∀ a x, ((![v187, v5] : Fin 2 → IVec S16 32) a x).toNat < S64x256.size a) ∧
  (∀ a x, ((![v187, v6] : Fin 2 → IVec S16 32) a x).toNat < S64x256.size a) ∧
  (∀ a x, ((![v187, v7] : Fin 2 → IVec S16 32) a x).toNat < S64x256.size a) ∧
  (∀ a x, ((![v187, v8] : Fin 2 → IVec S16 32) a x).toNat < S64x256.size a) ∧
  (∀ a x, ((![v187, v9] : Fin 2 → IVec S16 32) a x).toNat < S64x256.size a) ∧
  (∀ a x, ((![v187, v10] : Fin 2 → IVec S16 32) a x).toNat < S64x256.size a)
theorem k0_idx177_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw23 : k0_chk23 v3 v4 v5 v6 v7 v8 v9 v10 v187), ∀ a x, ((![v187, v3] : Fin 2 → IVec S16 32) a x).toNat < S64x256.size a := fun v3 v4 v5 v6 v7 v8 v9 v10 v187 k0_hw23 => k0_hw23.1
theorem k0_idx178_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw23 : k0_chk23 v3 v4 v5 v6 v7 v8 v9 v10 v187), ∀ a x, ((![v187, v4] : Fin 2 → IVec S16 32) a x).toNat < S64x256.size a := fun v3 v4 v5 v6 v7 v8 v9 v10 v187 k0_hw23 => k0_hw23.2.1
theorem k0_idx179_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw23 : k0_chk23 v3 v4 v5 v6 v7 v8 v9 v10 v187), ∀ a x, ((![v187, v5] : Fin 2 → IVec S16 32) a x).toNat < S64x256.size a := fun v3 v4 v5 v6 v7 v8 v9 v10 v187 k0_hw23 => k0_hw23.2.2.1
theorem k0_idx180_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw23 : k0_chk23 v3 v4 v5 v6 v7 v8 v9 v10 v187), ∀ a x, ((![v187, v6] : Fin 2 → IVec S16 32) a x).toNat < S64x256.size a := fun v3 v4 v5 v6 v7 v8 v9 v10 v187 k0_hw23 => k0_hw23.2.2.2.1
theorem k0_idx181_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw23 : k0_chk23 v3 v4 v5 v6 v7 v8 v9 v10 v187), ∀ a x, ((![v187, v7] : Fin 2 → IVec S16 32) a x).toNat < S64x256.size a := fun v3 v4 v5 v6 v7 v8 v9 v10 v187 k0_hw23 => k0_hw23.2.2.2.2.1
theorem k0_idx182_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw23 : k0_chk23 v3 v4 v5 v6 v7 v8 v9 v10 v187), ∀ a x, ((![v187, v8] : Fin 2 → IVec S16 32) a x).toNat < S64x256.size a := fun v3 v4 v5 v6 v7 v8 v9 v10 v187 k0_hw23 => k0_hw23.2.2.2.2.2.1
theorem k0_idx183_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw23 : k0_chk23 v3 v4 v5 v6 v7 v8 v9 v10 v187), ∀ a x, ((![v187, v9] : Fin 2 → IVec S16 32) a x).toNat < S64x256.size a := fun v3 v4 v5 v6 v7 v8 v9 v10 v187 k0_hw23 => k0_hw23.2.2.2.2.2.2.1
theorem k0_idx184_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw23 : k0_chk23 v3 v4 v5 v6 v7 v8 v9 v10 v187), ∀ a x, ((![v187, v10] : Fin 2 → IVec S16 32) a x).toNat < S64x256.size a := fun v3 v4 v5 v6 v7 v8 v9 v10 v187 k0_hw23 => k0_hw23.2.2.2.2.2.2.2
def k0_off188 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_163 : BitVec 32 := 4#32
  let v185 : BitVec 32 := Scalar.muli arg21 c4_i32_163
  let c2_i32_164 : BitVec 32 := 2#32
  let v186 : BitVec 32 := Scalar.addi v185 c2_i32_164
  let v210 : Index := Scalar.indexCast v186
  let c80_172 : Index := 80#32
  ![v210.toNat, 80]
def k0_off189 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_173 : BitVec 32 := 4#32
  let v212 : BitVec 32 := Scalar.muli arg21 c4_i32_173
  let c3_i32 : BitVec 32 := 3#32
  let v213 : BitVec 32 := Scalar.addi v212 c3_i32
  let v216 : Index := Scalar.indexCast v213
  let c0_174 : Index := 0#32
  ![v216.toNat, 0]
def k0_off190 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_173 : BitVec 32 := 4#32
  let v212 : BitVec 32 := Scalar.muli arg21 c4_i32_173
  let c3_i32 : BitVec 32 := 3#32
  let v213 : BitVec 32 := Scalar.addi v212 c3_i32
  let v219 : Index := Scalar.indexCast v213
  let c16_175 : Index := 16#32
  ![v219.toNat, 16]
def k0_off191 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_173 : BitVec 32 := 4#32
  let v212 : BitVec 32 := Scalar.muli arg21 c4_i32_173
  let c3_i32 : BitVec 32 := 3#32
  let v213 : BitVec 32 := Scalar.addi v212 c3_i32
  let v222 : Index := Scalar.indexCast v213
  let c0_176 : Index := 0#32
  ![v222.toNat, 0]
def k0_off192 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_173 : BitVec 32 := 4#32
  let v212 : BitVec 32 := Scalar.muli arg21 c4_i32_173
  let c3_i32 : BitVec 32 := 3#32
  let v213 : BitVec 32 := Scalar.addi v212 c3_i32
  let v225 : Index := Scalar.indexCast v213
  let c16_177 : Index := 16#32
  ![v225.toNat, 16]
def k0_off193 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_173 : BitVec 32 := 4#32
  let v212 : BitVec 32 := Scalar.muli arg21 c4_i32_173
  let c3_i32 : BitVec 32 := 3#32
  let v213 : BitVec 32 := Scalar.addi v212 c3_i32
  let v228 : Index := Scalar.indexCast v213
  let c32_178 : Index := 32#32
  ![v228.toNat, 32]
def k0_off194 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_173 : BitVec 32 := 4#32
  let v212 : BitVec 32 := Scalar.muli arg21 c4_i32_173
  let c3_i32 : BitVec 32 := 3#32
  let v213 : BitVec 32 := Scalar.addi v212 c3_i32
  let v231 : Index := Scalar.indexCast v213
  let c48_179 : Index := 48#32
  ![v231.toNat, 48]
def k0_off195 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_173 : BitVec 32 := 4#32
  let v212 : BitVec 32 := Scalar.muli arg21 c4_i32_173
  let c3_i32 : BitVec 32 := 3#32
  let v213 : BitVec 32 := Scalar.addi v212 c3_i32
  let v234 : Index := Scalar.indexCast v213
  let c64_180 : Index := 64#32
  ![v234.toNat, 64]

def k0_chk24 (v3 : IVec S16 32) (v4 : IVec S16 32) (v5 : IVec S16 32) (v6 : IVec S16 32) (v7 : IVec S16 32) (v8 : IVec S16 32) (v9 : IVec S16 32) (v10 : IVec S16 32) (v214 : IVec S16 32) : Prop :=
  (∀ a x, ((![v214, v3] : Fin 2 → IVec S16 32) a x).toNat < S64x256.size a) ∧
  (∀ a x, ((![v214, v4] : Fin 2 → IVec S16 32) a x).toNat < S64x256.size a) ∧
  (∀ a x, ((![v214, v5] : Fin 2 → IVec S16 32) a x).toNat < S64x256.size a) ∧
  (∀ a x, ((![v214, v6] : Fin 2 → IVec S16 32) a x).toNat < S64x256.size a) ∧
  (∀ a x, ((![v214, v7] : Fin 2 → IVec S16 32) a x).toNat < S64x256.size a) ∧
  (∀ a x, ((![v214, v8] : Fin 2 → IVec S16 32) a x).toNat < S64x256.size a) ∧
  (∀ a x, ((![v214, v9] : Fin 2 → IVec S16 32) a x).toNat < S64x256.size a) ∧
  (∀ a x, ((![v214, v10] : Fin 2 → IVec S16 32) a x).toNat < S64x256.size a)
theorem k0_idx185_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw24 : k0_chk24 v3 v4 v5 v6 v7 v8 v9 v10 v214), ∀ a x, ((![v214, v3] : Fin 2 → IVec S16 32) a x).toNat < S64x256.size a := fun v3 v4 v5 v6 v7 v8 v9 v10 v214 k0_hw24 => k0_hw24.1
theorem k0_idx186_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw24 : k0_chk24 v3 v4 v5 v6 v7 v8 v9 v10 v214), ∀ a x, ((![v214, v4] : Fin 2 → IVec S16 32) a x).toNat < S64x256.size a := fun v3 v4 v5 v6 v7 v8 v9 v10 v214 k0_hw24 => k0_hw24.2.1
theorem k0_idx187_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw24 : k0_chk24 v3 v4 v5 v6 v7 v8 v9 v10 v214), ∀ a x, ((![v214, v5] : Fin 2 → IVec S16 32) a x).toNat < S64x256.size a := fun v3 v4 v5 v6 v7 v8 v9 v10 v214 k0_hw24 => k0_hw24.2.2.1
theorem k0_idx188_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw24 : k0_chk24 v3 v4 v5 v6 v7 v8 v9 v10 v214), ∀ a x, ((![v214, v6] : Fin 2 → IVec S16 32) a x).toNat < S64x256.size a := fun v3 v4 v5 v6 v7 v8 v9 v10 v214 k0_hw24 => k0_hw24.2.2.2.1
theorem k0_idx189_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw24 : k0_chk24 v3 v4 v5 v6 v7 v8 v9 v10 v214), ∀ a x, ((![v214, v7] : Fin 2 → IVec S16 32) a x).toNat < S64x256.size a := fun v3 v4 v5 v6 v7 v8 v9 v10 v214 k0_hw24 => k0_hw24.2.2.2.2.1
theorem k0_idx190_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw24 : k0_chk24 v3 v4 v5 v6 v7 v8 v9 v10 v214), ∀ a x, ((![v214, v8] : Fin 2 → IVec S16 32) a x).toNat < S64x256.size a := fun v3 v4 v5 v6 v7 v8 v9 v10 v214 k0_hw24 => k0_hw24.2.2.2.2.2.1
theorem k0_idx191_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw24 : k0_chk24 v3 v4 v5 v6 v7 v8 v9 v10 v214), ∀ a x, ((![v214, v9] : Fin 2 → IVec S16 32) a x).toNat < S64x256.size a := fun v3 v4 v5 v6 v7 v8 v9 v10 v214 k0_hw24 => k0_hw24.2.2.2.2.2.2.1
theorem k0_idx192_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw24 : k0_chk24 v3 v4 v5 v6 v7 v8 v9 v10 v214), ∀ a x, ((![v214, v10] : Fin 2 → IVec S16 32) a x).toNat < S64x256.size a := fun v3 v4 v5 v6 v7 v8 v9 v10 v214 k0_hw24 => k0_hw24.2.2.2.2.2.2.2
def k0_off196 (k0_t6 : Fin k0_t6_loop.trips) : Fin 2 → Nat :=
  let c0_i32_93 : BitVec 32 := 0#32
  let c1_i32_95 : BitVec 32 := 1#32
  let arg21 : BitVec 32 := Scf.iv c0_i32_93 c1_i32_95 k0_t6
  let c4_i32_173 : BitVec 32 := 4#32
  let v212 : BitVec 32 := Scalar.muli arg21 c4_i32_173
  let c3_i32 : BitVec 32 := 3#32
  let v213 : BitVec 32 := Scalar.addi v212 c3_i32
  let v237 : Index := Scalar.indexCast v213
  let c80_181 : Index := 80#32
  ![v237.toNat, 80]
@[reducible] def k0_t7_loop : Scf.Loop 32 :=
  let c0_i32_111 : BitVec 32 := 0#32
  let c16_i32_112 : BitVec 32 := 16#32
  let v105 : BitVec 32 := Scalar.addi c0_i32_111 c16_i32_112
  let c1_i32_113 : BitVec 32 := 1#32
  ⟨c0_i32_111, v105, c1_i32_113⟩
def k0_off197 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32 : BitVec 32 := 4#32
  let v131 : BitVec 32 := Scalar.muli arg21 c4_i32
  let c0_i32_144 : BitVec 32 := 0#32
  let v132 : BitVec 32 := Scalar.addi v131 c0_i32_144
  let v135 : Index := Scalar.indexCast v132
  let c0_145 : Index := 0#32
  ![v135.toNat, 0]
def k0_off198 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32 : BitVec 32 := 4#32
  let v131 : BitVec 32 := Scalar.muli arg21 c4_i32
  let c0_i32_144 : BitVec 32 := 0#32
  let v132 : BitVec 32 := Scalar.addi v131 c0_i32_144
  let v138 : Index := Scalar.indexCast v132
  let c16_146 : Index := 16#32
  ![v138.toNat, 16]
def k0_off199 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32 : BitVec 32 := 4#32
  let v131 : BitVec 32 := Scalar.muli arg21 c4_i32
  let c0_i32_144 : BitVec 32 := 0#32
  let v132 : BitVec 32 := Scalar.addi v131 c0_i32_144
  let v141 : Index := Scalar.indexCast v132
  let c0_147 : Index := 0#32
  ![v141.toNat, 0]
def k0_off200 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32 : BitVec 32 := 4#32
  let v131 : BitVec 32 := Scalar.muli arg21 c4_i32
  let c0_i32_144 : BitVec 32 := 0#32
  let v132 : BitVec 32 := Scalar.addi v131 c0_i32_144
  let v144 : Index := Scalar.indexCast v132
  let c16_148 : Index := 16#32
  ![v144.toNat, 16]
def k0_off201 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32 : BitVec 32 := 4#32
  let v131 : BitVec 32 := Scalar.muli arg21 c4_i32
  let c0_i32_144 : BitVec 32 := 0#32
  let v132 : BitVec 32 := Scalar.addi v131 c0_i32_144
  let v147 : Index := Scalar.indexCast v132
  let c32_149 : Index := 32#32
  ![v147.toNat, 32]
def k0_off202 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32 : BitVec 32 := 4#32
  let v131 : BitVec 32 := Scalar.muli arg21 c4_i32
  let c0_i32_144 : BitVec 32 := 0#32
  let v132 : BitVec 32 := Scalar.addi v131 c0_i32_144
  let v150 : Index := Scalar.indexCast v132
  let c48_150 : Index := 48#32
  ![v150.toNat, 48]
def k0_off203 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32 : BitVec 32 := 4#32
  let v131 : BitVec 32 := Scalar.muli arg21 c4_i32
  let c0_i32_144 : BitVec 32 := 0#32
  let v132 : BitVec 32 := Scalar.addi v131 c0_i32_144
  let v153 : Index := Scalar.indexCast v132
  let c64_151 : Index := 64#32
  ![v153.toNat, 64]

def k0_chk25 (v3 : IVec S16 32) (v4 : IVec S16 32) (v5 : IVec S16 32) (v6 : IVec S16 32) (v7 : IVec S16 32) (v8 : IVec S16 32) (v9 : IVec S16 32) (v10 : IVec S16 32) (v133 : IVec S16 32) : Prop :=
  (∀ a x, ((![v133, v3] : Fin 2 → IVec S16 32) a x).toNat < S64x256.size a) ∧
  (∀ a x, ((![v133, v4] : Fin 2 → IVec S16 32) a x).toNat < S64x256.size a) ∧
  (∀ a x, ((![v133, v5] : Fin 2 → IVec S16 32) a x).toNat < S64x256.size a) ∧
  (∀ a x, ((![v133, v6] : Fin 2 → IVec S16 32) a x).toNat < S64x256.size a) ∧
  (∀ a x, ((![v133, v7] : Fin 2 → IVec S16 32) a x).toNat < S64x256.size a) ∧
  (∀ a x, ((![v133, v8] : Fin 2 → IVec S16 32) a x).toNat < S64x256.size a) ∧
  (∀ a x, ((![v133, v9] : Fin 2 → IVec S16 32) a x).toNat < S64x256.size a) ∧
  (∀ a x, ((![v133, v10] : Fin 2 → IVec S16 32) a x).toNat < S64x256.size a)
theorem k0_idx193_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw25 : k0_chk25 v3 v4 v5 v6 v7 v8 v9 v10 v133), ∀ a x, ((![v133, v3] : Fin 2 → IVec S16 32) a x).toNat < S64x256.size a := fun v3 v4 v5 v6 v7 v8 v9 v10 v133 k0_hw25 => k0_hw25.1
theorem k0_idx194_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw25 : k0_chk25 v3 v4 v5 v6 v7 v8 v9 v10 v133), ∀ a x, ((![v133, v4] : Fin 2 → IVec S16 32) a x).toNat < S64x256.size a := fun v3 v4 v5 v6 v7 v8 v9 v10 v133 k0_hw25 => k0_hw25.2.1
theorem k0_idx195_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw25 : k0_chk25 v3 v4 v5 v6 v7 v8 v9 v10 v133), ∀ a x, ((![v133, v5] : Fin 2 → IVec S16 32) a x).toNat < S64x256.size a := fun v3 v4 v5 v6 v7 v8 v9 v10 v133 k0_hw25 => k0_hw25.2.2.1
theorem k0_idx196_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw25 : k0_chk25 v3 v4 v5 v6 v7 v8 v9 v10 v133), ∀ a x, ((![v133, v6] : Fin 2 → IVec S16 32) a x).toNat < S64x256.size a := fun v3 v4 v5 v6 v7 v8 v9 v10 v133 k0_hw25 => k0_hw25.2.2.2.1
theorem k0_idx197_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw25 : k0_chk25 v3 v4 v5 v6 v7 v8 v9 v10 v133), ∀ a x, ((![v133, v7] : Fin 2 → IVec S16 32) a x).toNat < S64x256.size a := fun v3 v4 v5 v6 v7 v8 v9 v10 v133 k0_hw25 => k0_hw25.2.2.2.2.1
theorem k0_idx198_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw25 : k0_chk25 v3 v4 v5 v6 v7 v8 v9 v10 v133), ∀ a x, ((![v133, v8] : Fin 2 → IVec S16 32) a x).toNat < S64x256.size a := fun v3 v4 v5 v6 v7 v8 v9 v10 v133 k0_hw25 => k0_hw25.2.2.2.2.2.1
theorem k0_idx199_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw25 : k0_chk25 v3 v4 v5 v6 v7 v8 v9 v10 v133), ∀ a x, ((![v133, v9] : Fin 2 → IVec S16 32) a x).toNat < S64x256.size a := fun v3 v4 v5 v6 v7 v8 v9 v10 v133 k0_hw25 => k0_hw25.2.2.2.2.2.2.1
theorem k0_idx200_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw25 : k0_chk25 v3 v4 v5 v6 v7 v8 v9 v10 v133), ∀ a x, ((![v133, v10] : Fin 2 → IVec S16 32) a x).toNat < S64x256.size a := fun v3 v4 v5 v6 v7 v8 v9 v10 v133 k0_hw25 => k0_hw25.2.2.2.2.2.2.2
def k0_off204 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32 : BitVec 32 := 4#32
  let v131 : BitVec 32 := Scalar.muli arg21 c4_i32
  let c0_i32_144 : BitVec 32 := 0#32
  let v132 : BitVec 32 := Scalar.addi v131 c0_i32_144
  let v156 : Index := Scalar.indexCast v132
  let c80_152 : Index := 80#32
  ![v156.toNat, 80]
def k0_off205 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_153 : BitVec 32 := 4#32
  let v158 : BitVec 32 := Scalar.muli arg21 c4_i32_153
  let c1_i32_154 : BitVec 32 := 1#32
  let v159 : BitVec 32 := Scalar.addi v158 c1_i32_154
  let v162 : Index := Scalar.indexCast v159
  let c0_155 : Index := 0#32
  ![v162.toNat, 0]
def k0_off206 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_153 : BitVec 32 := 4#32
  let v158 : BitVec 32 := Scalar.muli arg21 c4_i32_153
  let c1_i32_154 : BitVec 32 := 1#32
  let v159 : BitVec 32 := Scalar.addi v158 c1_i32_154
  let v165 : Index := Scalar.indexCast v159
  let c16_156 : Index := 16#32
  ![v165.toNat, 16]
def k0_off207 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_153 : BitVec 32 := 4#32
  let v158 : BitVec 32 := Scalar.muli arg21 c4_i32_153
  let c1_i32_154 : BitVec 32 := 1#32
  let v159 : BitVec 32 := Scalar.addi v158 c1_i32_154
  let v168 : Index := Scalar.indexCast v159
  let c0_157 : Index := 0#32
  ![v168.toNat, 0]
def k0_off208 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_153 : BitVec 32 := 4#32
  let v158 : BitVec 32 := Scalar.muli arg21 c4_i32_153
  let c1_i32_154 : BitVec 32 := 1#32
  let v159 : BitVec 32 := Scalar.addi v158 c1_i32_154
  let v171 : Index := Scalar.indexCast v159
  let c16_158 : Index := 16#32
  ![v171.toNat, 16]
def k0_off209 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_153 : BitVec 32 := 4#32
  let v158 : BitVec 32 := Scalar.muli arg21 c4_i32_153
  let c1_i32_154 : BitVec 32 := 1#32
  let v159 : BitVec 32 := Scalar.addi v158 c1_i32_154
  let v174 : Index := Scalar.indexCast v159
  let c32_159 : Index := 32#32
  ![v174.toNat, 32]
def k0_off210 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_153 : BitVec 32 := 4#32
  let v158 : BitVec 32 := Scalar.muli arg21 c4_i32_153
  let c1_i32_154 : BitVec 32 := 1#32
  let v159 : BitVec 32 := Scalar.addi v158 c1_i32_154
  let v177 : Index := Scalar.indexCast v159
  let c48_160 : Index := 48#32
  ![v177.toNat, 48]
def k0_off211 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_153 : BitVec 32 := 4#32
  let v158 : BitVec 32 := Scalar.muli arg21 c4_i32_153
  let c1_i32_154 : BitVec 32 := 1#32
  let v159 : BitVec 32 := Scalar.addi v158 c1_i32_154
  let v180 : Index := Scalar.indexCast v159
  let c64_161 : Index := 64#32
  ![v180.toNat, 64]

def k0_chk26 (v3 : IVec S16 32) (v4 : IVec S16 32) (v5 : IVec S16 32) (v6 : IVec S16 32) (v7 : IVec S16 32) (v8 : IVec S16 32) (v9 : IVec S16 32) (v10 : IVec S16 32) (v160 : IVec S16 32) : Prop :=
  (∀ a x, ((![v160, v3] : Fin 2 → IVec S16 32) a x).toNat < S64x256.size a) ∧
  (∀ a x, ((![v160, v4] : Fin 2 → IVec S16 32) a x).toNat < S64x256.size a) ∧
  (∀ a x, ((![v160, v5] : Fin 2 → IVec S16 32) a x).toNat < S64x256.size a) ∧
  (∀ a x, ((![v160, v6] : Fin 2 → IVec S16 32) a x).toNat < S64x256.size a) ∧
  (∀ a x, ((![v160, v7] : Fin 2 → IVec S16 32) a x).toNat < S64x256.size a) ∧
  (∀ a x, ((![v160, v8] : Fin 2 → IVec S16 32) a x).toNat < S64x256.size a) ∧
  (∀ a x, ((![v160, v9] : Fin 2 → IVec S16 32) a x).toNat < S64x256.size a) ∧
  (∀ a x, ((![v160, v10] : Fin 2 → IVec S16 32) a x).toNat < S64x256.size a)
theorem k0_idx201_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw26 : k0_chk26 v3 v4 v5 v6 v7 v8 v9 v10 v160), ∀ a x, ((![v160, v3] : Fin 2 → IVec S16 32) a x).toNat < S64x256.size a := fun v3 v4 v5 v6 v7 v8 v9 v10 v160 k0_hw26 => k0_hw26.1
theorem k0_idx202_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw26 : k0_chk26 v3 v4 v5 v6 v7 v8 v9 v10 v160), ∀ a x, ((![v160, v4] : Fin 2 → IVec S16 32) a x).toNat < S64x256.size a := fun v3 v4 v5 v6 v7 v8 v9 v10 v160 k0_hw26 => k0_hw26.2.1
theorem k0_idx203_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw26 : k0_chk26 v3 v4 v5 v6 v7 v8 v9 v10 v160), ∀ a x, ((![v160, v5] : Fin 2 → IVec S16 32) a x).toNat < S64x256.size a := fun v3 v4 v5 v6 v7 v8 v9 v10 v160 k0_hw26 => k0_hw26.2.2.1
theorem k0_idx204_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw26 : k0_chk26 v3 v4 v5 v6 v7 v8 v9 v10 v160), ∀ a x, ((![v160, v6] : Fin 2 → IVec S16 32) a x).toNat < S64x256.size a := fun v3 v4 v5 v6 v7 v8 v9 v10 v160 k0_hw26 => k0_hw26.2.2.2.1
theorem k0_idx205_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw26 : k0_chk26 v3 v4 v5 v6 v7 v8 v9 v10 v160), ∀ a x, ((![v160, v7] : Fin 2 → IVec S16 32) a x).toNat < S64x256.size a := fun v3 v4 v5 v6 v7 v8 v9 v10 v160 k0_hw26 => k0_hw26.2.2.2.2.1
theorem k0_idx206_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw26 : k0_chk26 v3 v4 v5 v6 v7 v8 v9 v10 v160), ∀ a x, ((![v160, v8] : Fin 2 → IVec S16 32) a x).toNat < S64x256.size a := fun v3 v4 v5 v6 v7 v8 v9 v10 v160 k0_hw26 => k0_hw26.2.2.2.2.2.1
theorem k0_idx207_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw26 : k0_chk26 v3 v4 v5 v6 v7 v8 v9 v10 v160), ∀ a x, ((![v160, v9] : Fin 2 → IVec S16 32) a x).toNat < S64x256.size a := fun v3 v4 v5 v6 v7 v8 v9 v10 v160 k0_hw26 => k0_hw26.2.2.2.2.2.2.1
theorem k0_idx208_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw26 : k0_chk26 v3 v4 v5 v6 v7 v8 v9 v10 v160), ∀ a x, ((![v160, v10] : Fin 2 → IVec S16 32) a x).toNat < S64x256.size a := fun v3 v4 v5 v6 v7 v8 v9 v10 v160 k0_hw26 => k0_hw26.2.2.2.2.2.2.2
def k0_off212 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_153 : BitVec 32 := 4#32
  let v158 : BitVec 32 := Scalar.muli arg21 c4_i32_153
  let c1_i32_154 : BitVec 32 := 1#32
  let v159 : BitVec 32 := Scalar.addi v158 c1_i32_154
  let v183 : Index := Scalar.indexCast v159
  let c80_162 : Index := 80#32
  ![v183.toNat, 80]
def k0_off213 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_163 : BitVec 32 := 4#32
  let v185 : BitVec 32 := Scalar.muli arg21 c4_i32_163
  let c2_i32_164 : BitVec 32 := 2#32
  let v186 : BitVec 32 := Scalar.addi v185 c2_i32_164
  let v189 : Index := Scalar.indexCast v186
  let c0_165 : Index := 0#32
  ![v189.toNat, 0]
def k0_off214 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_163 : BitVec 32 := 4#32
  let v185 : BitVec 32 := Scalar.muli arg21 c4_i32_163
  let c2_i32_164 : BitVec 32 := 2#32
  let v186 : BitVec 32 := Scalar.addi v185 c2_i32_164
  let v192 : Index := Scalar.indexCast v186
  let c16_166 : Index := 16#32
  ![v192.toNat, 16]
def k0_off215 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_163 : BitVec 32 := 4#32
  let v185 : BitVec 32 := Scalar.muli arg21 c4_i32_163
  let c2_i32_164 : BitVec 32 := 2#32
  let v186 : BitVec 32 := Scalar.addi v185 c2_i32_164
  let v195 : Index := Scalar.indexCast v186
  let c0_167 : Index := 0#32
  ![v195.toNat, 0]
def k0_off216 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_163 : BitVec 32 := 4#32
  let v185 : BitVec 32 := Scalar.muli arg21 c4_i32_163
  let c2_i32_164 : BitVec 32 := 2#32
  let v186 : BitVec 32 := Scalar.addi v185 c2_i32_164
  let v198 : Index := Scalar.indexCast v186
  let c16_168 : Index := 16#32
  ![v198.toNat, 16]
def k0_off217 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_163 : BitVec 32 := 4#32
  let v185 : BitVec 32 := Scalar.muli arg21 c4_i32_163
  let c2_i32_164 : BitVec 32 := 2#32
  let v186 : BitVec 32 := Scalar.addi v185 c2_i32_164
  let v201 : Index := Scalar.indexCast v186
  let c32_169 : Index := 32#32
  ![v201.toNat, 32]
def k0_off218 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_163 : BitVec 32 := 4#32
  let v185 : BitVec 32 := Scalar.muli arg21 c4_i32_163
  let c2_i32_164 : BitVec 32 := 2#32
  let v186 : BitVec 32 := Scalar.addi v185 c2_i32_164
  let v204 : Index := Scalar.indexCast v186
  let c48_170 : Index := 48#32
  ![v204.toNat, 48]
def k0_off219 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_163 : BitVec 32 := 4#32
  let v185 : BitVec 32 := Scalar.muli arg21 c4_i32_163
  let c2_i32_164 : BitVec 32 := 2#32
  let v186 : BitVec 32 := Scalar.addi v185 c2_i32_164
  let v207 : Index := Scalar.indexCast v186
  let c64_171 : Index := 64#32
  ![v207.toNat, 64]

def k0_chk27 (v3 : IVec S16 32) (v4 : IVec S16 32) (v5 : IVec S16 32) (v6 : IVec S16 32) (v7 : IVec S16 32) (v8 : IVec S16 32) (v9 : IVec S16 32) (v10 : IVec S16 32) (v187 : IVec S16 32) : Prop :=
  (∀ a x, ((![v187, v3] : Fin 2 → IVec S16 32) a x).toNat < S64x256.size a) ∧
  (∀ a x, ((![v187, v4] : Fin 2 → IVec S16 32) a x).toNat < S64x256.size a) ∧
  (∀ a x, ((![v187, v5] : Fin 2 → IVec S16 32) a x).toNat < S64x256.size a) ∧
  (∀ a x, ((![v187, v6] : Fin 2 → IVec S16 32) a x).toNat < S64x256.size a) ∧
  (∀ a x, ((![v187, v7] : Fin 2 → IVec S16 32) a x).toNat < S64x256.size a) ∧
  (∀ a x, ((![v187, v8] : Fin 2 → IVec S16 32) a x).toNat < S64x256.size a) ∧
  (∀ a x, ((![v187, v9] : Fin 2 → IVec S16 32) a x).toNat < S64x256.size a) ∧
  (∀ a x, ((![v187, v10] : Fin 2 → IVec S16 32) a x).toNat < S64x256.size a)
theorem k0_idx209_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw27 : k0_chk27 v3 v4 v5 v6 v7 v8 v9 v10 v187), ∀ a x, ((![v187, v3] : Fin 2 → IVec S16 32) a x).toNat < S64x256.size a := fun v3 v4 v5 v6 v7 v8 v9 v10 v187 k0_hw27 => k0_hw27.1
theorem k0_idx210_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw27 : k0_chk27 v3 v4 v5 v6 v7 v8 v9 v10 v187), ∀ a x, ((![v187, v4] : Fin 2 → IVec S16 32) a x).toNat < S64x256.size a := fun v3 v4 v5 v6 v7 v8 v9 v10 v187 k0_hw27 => k0_hw27.2.1
theorem k0_idx211_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw27 : k0_chk27 v3 v4 v5 v6 v7 v8 v9 v10 v187), ∀ a x, ((![v187, v5] : Fin 2 → IVec S16 32) a x).toNat < S64x256.size a := fun v3 v4 v5 v6 v7 v8 v9 v10 v187 k0_hw27 => k0_hw27.2.2.1
theorem k0_idx212_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw27 : k0_chk27 v3 v4 v5 v6 v7 v8 v9 v10 v187), ∀ a x, ((![v187, v6] : Fin 2 → IVec S16 32) a x).toNat < S64x256.size a := fun v3 v4 v5 v6 v7 v8 v9 v10 v187 k0_hw27 => k0_hw27.2.2.2.1
theorem k0_idx213_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw27 : k0_chk27 v3 v4 v5 v6 v7 v8 v9 v10 v187), ∀ a x, ((![v187, v7] : Fin 2 → IVec S16 32) a x).toNat < S64x256.size a := fun v3 v4 v5 v6 v7 v8 v9 v10 v187 k0_hw27 => k0_hw27.2.2.2.2.1
theorem k0_idx214_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw27 : k0_chk27 v3 v4 v5 v6 v7 v8 v9 v10 v187), ∀ a x, ((![v187, v8] : Fin 2 → IVec S16 32) a x).toNat < S64x256.size a := fun v3 v4 v5 v6 v7 v8 v9 v10 v187 k0_hw27 => k0_hw27.2.2.2.2.2.1
theorem k0_idx215_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw27 : k0_chk27 v3 v4 v5 v6 v7 v8 v9 v10 v187), ∀ a x, ((![v187, v9] : Fin 2 → IVec S16 32) a x).toNat < S64x256.size a := fun v3 v4 v5 v6 v7 v8 v9 v10 v187 k0_hw27 => k0_hw27.2.2.2.2.2.2.1
theorem k0_idx216_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw27 : k0_chk27 v3 v4 v5 v6 v7 v8 v9 v10 v187), ∀ a x, ((![v187, v10] : Fin 2 → IVec S16 32) a x).toNat < S64x256.size a := fun v3 v4 v5 v6 v7 v8 v9 v10 v187 k0_hw27 => k0_hw27.2.2.2.2.2.2.2
def k0_off220 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_163 : BitVec 32 := 4#32
  let v185 : BitVec 32 := Scalar.muli arg21 c4_i32_163
  let c2_i32_164 : BitVec 32 := 2#32
  let v186 : BitVec 32 := Scalar.addi v185 c2_i32_164
  let v210 : Index := Scalar.indexCast v186
  let c80_172 : Index := 80#32
  ![v210.toNat, 80]
def k0_off221 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_173 : BitVec 32 := 4#32
  let v212 : BitVec 32 := Scalar.muli arg21 c4_i32_173
  let c3_i32 : BitVec 32 := 3#32
  let v213 : BitVec 32 := Scalar.addi v212 c3_i32
  let v216 : Index := Scalar.indexCast v213
  let c0_174 : Index := 0#32
  ![v216.toNat, 0]
def k0_off222 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_173 : BitVec 32 := 4#32
  let v212 : BitVec 32 := Scalar.muli arg21 c4_i32_173
  let c3_i32 : BitVec 32 := 3#32
  let v213 : BitVec 32 := Scalar.addi v212 c3_i32
  let v219 : Index := Scalar.indexCast v213
  let c16_175 : Index := 16#32
  ![v219.toNat, 16]
def k0_off223 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_173 : BitVec 32 := 4#32
  let v212 : BitVec 32 := Scalar.muli arg21 c4_i32_173
  let c3_i32 : BitVec 32 := 3#32
  let v213 : BitVec 32 := Scalar.addi v212 c3_i32
  let v222 : Index := Scalar.indexCast v213
  let c0_176 : Index := 0#32
  ![v222.toNat, 0]
def k0_off224 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_173 : BitVec 32 := 4#32
  let v212 : BitVec 32 := Scalar.muli arg21 c4_i32_173
  let c3_i32 : BitVec 32 := 3#32
  let v213 : BitVec 32 := Scalar.addi v212 c3_i32
  let v225 : Index := Scalar.indexCast v213
  let c16_177 : Index := 16#32
  ![v225.toNat, 16]
def k0_off225 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_173 : BitVec 32 := 4#32
  let v212 : BitVec 32 := Scalar.muli arg21 c4_i32_173
  let c3_i32 : BitVec 32 := 3#32
  let v213 : BitVec 32 := Scalar.addi v212 c3_i32
  let v228 : Index := Scalar.indexCast v213
  let c32_178 : Index := 32#32
  ![v228.toNat, 32]
def k0_off226 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_173 : BitVec 32 := 4#32
  let v212 : BitVec 32 := Scalar.muli arg21 c4_i32_173
  let c3_i32 : BitVec 32 := 3#32
  let v213 : BitVec 32 := Scalar.addi v212 c3_i32
  let v231 : Index := Scalar.indexCast v213
  let c48_179 : Index := 48#32
  ![v231.toNat, 48]
def k0_off227 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_173 : BitVec 32 := 4#32
  let v212 : BitVec 32 := Scalar.muli arg21 c4_i32_173
  let c3_i32 : BitVec 32 := 3#32
  let v213 : BitVec 32 := Scalar.addi v212 c3_i32
  let v234 : Index := Scalar.indexCast v213
  let c64_180 : Index := 64#32
  ![v234.toNat, 64]

def k0_chk28 (v3 : IVec S16 32) (v4 : IVec S16 32) (v5 : IVec S16 32) (v6 : IVec S16 32) (v7 : IVec S16 32) (v8 : IVec S16 32) (v9 : IVec S16 32) (v10 : IVec S16 32) (v214 : IVec S16 32) : Prop :=
  (∀ a x, ((![v214, v3] : Fin 2 → IVec S16 32) a x).toNat < S64x256.size a) ∧
  (∀ a x, ((![v214, v4] : Fin 2 → IVec S16 32) a x).toNat < S64x256.size a) ∧
  (∀ a x, ((![v214, v5] : Fin 2 → IVec S16 32) a x).toNat < S64x256.size a) ∧
  (∀ a x, ((![v214, v6] : Fin 2 → IVec S16 32) a x).toNat < S64x256.size a) ∧
  (∀ a x, ((![v214, v7] : Fin 2 → IVec S16 32) a x).toNat < S64x256.size a) ∧
  (∀ a x, ((![v214, v8] : Fin 2 → IVec S16 32) a x).toNat < S64x256.size a) ∧
  (∀ a x, ((![v214, v9] : Fin 2 → IVec S16 32) a x).toNat < S64x256.size a) ∧
  (∀ a x, ((![v214, v10] : Fin 2 → IVec S16 32) a x).toNat < S64x256.size a)
theorem k0_idx217_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw28 : k0_chk28 v3 v4 v5 v6 v7 v8 v9 v10 v214), ∀ a x, ((![v214, v3] : Fin 2 → IVec S16 32) a x).toNat < S64x256.size a := fun v3 v4 v5 v6 v7 v8 v9 v10 v214 k0_hw28 => k0_hw28.1
theorem k0_idx218_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw28 : k0_chk28 v3 v4 v5 v6 v7 v8 v9 v10 v214), ∀ a x, ((![v214, v4] : Fin 2 → IVec S16 32) a x).toNat < S64x256.size a := fun v3 v4 v5 v6 v7 v8 v9 v10 v214 k0_hw28 => k0_hw28.2.1
theorem k0_idx219_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw28 : k0_chk28 v3 v4 v5 v6 v7 v8 v9 v10 v214), ∀ a x, ((![v214, v5] : Fin 2 → IVec S16 32) a x).toNat < S64x256.size a := fun v3 v4 v5 v6 v7 v8 v9 v10 v214 k0_hw28 => k0_hw28.2.2.1
theorem k0_idx220_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw28 : k0_chk28 v3 v4 v5 v6 v7 v8 v9 v10 v214), ∀ a x, ((![v214, v6] : Fin 2 → IVec S16 32) a x).toNat < S64x256.size a := fun v3 v4 v5 v6 v7 v8 v9 v10 v214 k0_hw28 => k0_hw28.2.2.2.1
theorem k0_idx221_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw28 : k0_chk28 v3 v4 v5 v6 v7 v8 v9 v10 v214), ∀ a x, ((![v214, v7] : Fin 2 → IVec S16 32) a x).toNat < S64x256.size a := fun v3 v4 v5 v6 v7 v8 v9 v10 v214 k0_hw28 => k0_hw28.2.2.2.2.1
theorem k0_idx222_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw28 : k0_chk28 v3 v4 v5 v6 v7 v8 v9 v10 v214), ∀ a x, ((![v214, v8] : Fin 2 → IVec S16 32) a x).toNat < S64x256.size a := fun v3 v4 v5 v6 v7 v8 v9 v10 v214 k0_hw28 => k0_hw28.2.2.2.2.2.1
theorem k0_idx223_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw28 : k0_chk28 v3 v4 v5 v6 v7 v8 v9 v10 v214), ∀ a x, ((![v214, v9] : Fin 2 → IVec S16 32) a x).toNat < S64x256.size a := fun v3 v4 v5 v6 v7 v8 v9 v10 v214 k0_hw28 => k0_hw28.2.2.2.2.2.2.1
theorem k0_idx224_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw28 : k0_chk28 v3 v4 v5 v6 v7 v8 v9 v10 v214), ∀ a x, ((![v214, v10] : Fin 2 → IVec S16 32) a x).toNat < S64x256.size a := fun v3 v4 v5 v6 v7 v8 v9 v10 v214 k0_hw28 => k0_hw28.2.2.2.2.2.2.2
def k0_off228 (k0_t7 : Fin k0_t7_loop.trips) : Fin 2 → Nat :=
  let c0_i32_111 : BitVec 32 := 0#32
  let c1_i32_113 : BitVec 32 := 1#32
  let arg21 : BitVec 32 := Scf.iv c0_i32_111 c1_i32_113 k0_t7
  let c4_i32_173 : BitVec 32 := 4#32
  let v212 : BitVec 32 := Scalar.muli arg21 c4_i32_173
  let c3_i32 : BitVec 32 := 3#32
  let v213 : BitVec 32 := Scalar.addi v212 c3_i32
  let v237 : Index := Scalar.indexCast v213
  let c80_181 : Index := 80#32
  ![v237.toNat, 80]
@[reducible] def k0_t8_loop : Scf.Loop 32 :=
  let c0_i32_127 : BitVec 32 := 0#32
  let c16_i32_128 : BitVec 32 := 16#32
  let v117 : BitVec 32 := Scalar.addi c0_i32_127 c16_i32_128
  let c1_i32_129 : BitVec 32 := 1#32
  ⟨c0_i32_127, v117, c1_i32_129⟩
def k0_off229 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32 : BitVec 32 := 4#32
  let v131 : BitVec 32 := Scalar.muli arg21 c4_i32
  let c0_i32_144 : BitVec 32 := 0#32
  let v132 : BitVec 32 := Scalar.addi v131 c0_i32_144
  let v135 : Index := Scalar.indexCast v132
  let c0_145 : Index := 0#32
  ![v135.toNat, 0]
def k0_off230 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32 : BitVec 32 := 4#32
  let v131 : BitVec 32 := Scalar.muli arg21 c4_i32
  let c0_i32_144 : BitVec 32 := 0#32
  let v132 : BitVec 32 := Scalar.addi v131 c0_i32_144
  let v138 : Index := Scalar.indexCast v132
  let c16_146 : Index := 16#32
  ![v138.toNat, 16]
def k0_off231 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32 : BitVec 32 := 4#32
  let v131 : BitVec 32 := Scalar.muli arg21 c4_i32
  let c0_i32_144 : BitVec 32 := 0#32
  let v132 : BitVec 32 := Scalar.addi v131 c0_i32_144
  let v141 : Index := Scalar.indexCast v132
  let c0_147 : Index := 0#32
  ![v141.toNat, 0]
def k0_off232 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32 : BitVec 32 := 4#32
  let v131 : BitVec 32 := Scalar.muli arg21 c4_i32
  let c0_i32_144 : BitVec 32 := 0#32
  let v132 : BitVec 32 := Scalar.addi v131 c0_i32_144
  let v144 : Index := Scalar.indexCast v132
  let c16_148 : Index := 16#32
  ![v144.toNat, 16]
def k0_off233 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32 : BitVec 32 := 4#32
  let v131 : BitVec 32 := Scalar.muli arg21 c4_i32
  let c0_i32_144 : BitVec 32 := 0#32
  let v132 : BitVec 32 := Scalar.addi v131 c0_i32_144
  let v147 : Index := Scalar.indexCast v132
  let c32_149 : Index := 32#32
  ![v147.toNat, 32]
def k0_off234 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32 : BitVec 32 := 4#32
  let v131 : BitVec 32 := Scalar.muli arg21 c4_i32
  let c0_i32_144 : BitVec 32 := 0#32
  let v132 : BitVec 32 := Scalar.addi v131 c0_i32_144
  let v150 : Index := Scalar.indexCast v132
  let c48_150 : Index := 48#32
  ![v150.toNat, 48]
def k0_off235 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32 : BitVec 32 := 4#32
  let v131 : BitVec 32 := Scalar.muli arg21 c4_i32
  let c0_i32_144 : BitVec 32 := 0#32
  let v132 : BitVec 32 := Scalar.addi v131 c0_i32_144
  let v153 : Index := Scalar.indexCast v132
  let c64_151 : Index := 64#32
  ![v153.toNat, 64]

def k0_chk29 (v3 : IVec S16 32) (v4 : IVec S16 32) (v5 : IVec S16 32) (v6 : IVec S16 32) (v7 : IVec S16 32) (v8 : IVec S16 32) (v9 : IVec S16 32) (v10 : IVec S16 32) (v133 : IVec S16 32) : Prop :=
  (∀ a x, ((![v133, v3] : Fin 2 → IVec S16 32) a x).toNat < S64x256.size a) ∧
  (∀ a x, ((![v133, v4] : Fin 2 → IVec S16 32) a x).toNat < S64x256.size a) ∧
  (∀ a x, ((![v133, v5] : Fin 2 → IVec S16 32) a x).toNat < S64x256.size a) ∧
  (∀ a x, ((![v133, v6] : Fin 2 → IVec S16 32) a x).toNat < S64x256.size a) ∧
  (∀ a x, ((![v133, v7] : Fin 2 → IVec S16 32) a x).toNat < S64x256.size a) ∧
  (∀ a x, ((![v133, v8] : Fin 2 → IVec S16 32) a x).toNat < S64x256.size a) ∧
  (∀ a x, ((![v133, v9] : Fin 2 → IVec S16 32) a x).toNat < S64x256.size a) ∧
  (∀ a x, ((![v133, v10] : Fin 2 → IVec S16 32) a x).toNat < S64x256.size a)
theorem k0_idx225_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw29 : k0_chk29 v3 v4 v5 v6 v7 v8 v9 v10 v133), ∀ a x, ((![v133, v3] : Fin 2 → IVec S16 32) a x).toNat < S64x256.size a := fun v3 v4 v5 v6 v7 v8 v9 v10 v133 k0_hw29 => k0_hw29.1
theorem k0_idx226_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw29 : k0_chk29 v3 v4 v5 v6 v7 v8 v9 v10 v133), ∀ a x, ((![v133, v4] : Fin 2 → IVec S16 32) a x).toNat < S64x256.size a := fun v3 v4 v5 v6 v7 v8 v9 v10 v133 k0_hw29 => k0_hw29.2.1
theorem k0_idx227_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw29 : k0_chk29 v3 v4 v5 v6 v7 v8 v9 v10 v133), ∀ a x, ((![v133, v5] : Fin 2 → IVec S16 32) a x).toNat < S64x256.size a := fun v3 v4 v5 v6 v7 v8 v9 v10 v133 k0_hw29 => k0_hw29.2.2.1
theorem k0_idx228_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw29 : k0_chk29 v3 v4 v5 v6 v7 v8 v9 v10 v133), ∀ a x, ((![v133, v6] : Fin 2 → IVec S16 32) a x).toNat < S64x256.size a := fun v3 v4 v5 v6 v7 v8 v9 v10 v133 k0_hw29 => k0_hw29.2.2.2.1
theorem k0_idx229_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw29 : k0_chk29 v3 v4 v5 v6 v7 v8 v9 v10 v133), ∀ a x, ((![v133, v7] : Fin 2 → IVec S16 32) a x).toNat < S64x256.size a := fun v3 v4 v5 v6 v7 v8 v9 v10 v133 k0_hw29 => k0_hw29.2.2.2.2.1
theorem k0_idx230_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw29 : k0_chk29 v3 v4 v5 v6 v7 v8 v9 v10 v133), ∀ a x, ((![v133, v8] : Fin 2 → IVec S16 32) a x).toNat < S64x256.size a := fun v3 v4 v5 v6 v7 v8 v9 v10 v133 k0_hw29 => k0_hw29.2.2.2.2.2.1
theorem k0_idx231_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw29 : k0_chk29 v3 v4 v5 v6 v7 v8 v9 v10 v133), ∀ a x, ((![v133, v9] : Fin 2 → IVec S16 32) a x).toNat < S64x256.size a := fun v3 v4 v5 v6 v7 v8 v9 v10 v133 k0_hw29 => k0_hw29.2.2.2.2.2.2.1
theorem k0_idx232_inb : ∀ (v3 : IVec S16 32) (v4 : IVec S16 32) (v5 : IVec S16 32) (v6 : IVec S16 32) (v7 : IVec S16 32) (v8 : IVec S16 32) (v9 : IVec S16 32) (v10 : IVec S16 32) (v133 : IVec S16 32) (k0_hw29 : k0_chk29 v3 v4 v5 v6 v7 v8 v9 v10 v133), ∀ a x, ((![v133, v10] : Fin 2 → IVec S16 32) a x).toNat < S64x256.size a := fun v3 v4 v5 v6 v7 v8 v9 v10 v133 k0_hw29 => k0_hw29.2.2.2.2.2.2.2
def k0_off236 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32 : BitVec 32 := 4#32
  let v131 : BitVec 32 := Scalar.muli arg21 c4_i32
  let c0_i32_144 : BitVec 32 := 0#32
  let v132 : BitVec 32 := Scalar.addi v131 c0_i32_144
  let v156 : Index := Scalar.indexCast v132
  let c80_152 : Index := 80#32
  ![v156.toNat, 80]
def k0_off237 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_153 : BitVec 32 := 4#32
  let v158 : BitVec 32 := Scalar.muli arg21 c4_i32_153
  let c1_i32_154 : BitVec 32 := 1#32
  let v159 : BitVec 32 := Scalar.addi v158 c1_i32_154
  let v162 : Index := Scalar.indexCast v159
  let c0_155 : Index := 0#32
  ![v162.toNat, 0]
def k0_off238 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_153 : BitVec 32 := 4#32
  let v158 : BitVec 32 := Scalar.muli arg21 c4_i32_153
  let c1_i32_154 : BitVec 32 := 1#32
  let v159 : BitVec 32 := Scalar.addi v158 c1_i32_154
  let v165 : Index := Scalar.indexCast v159
  let c16_156 : Index := 16#32
  ![v165.toNat, 16]
def k0_off239 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_153 : BitVec 32 := 4#32
  let v158 : BitVec 32 := Scalar.muli arg21 c4_i32_153
  let c1_i32_154 : BitVec 32 := 1#32
  let v159 : BitVec 32 := Scalar.addi v158 c1_i32_154
  let v168 : Index := Scalar.indexCast v159
  let c0_157 : Index := 0#32
  ![v168.toNat, 0]
def k0_off240 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_153 : BitVec 32 := 4#32
  let v158 : BitVec 32 := Scalar.muli arg21 c4_i32_153
  let c1_i32_154 : BitVec 32 := 1#32
  let v159 : BitVec 32 := Scalar.addi v158 c1_i32_154
  let v171 : Index := Scalar.indexCast v159
  let c16_158 : Index := 16#32
  ![v171.toNat, 16]
def k0_off241 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_153 : BitVec 32 := 4#32
  let v158 : BitVec 32 := Scalar.muli arg21 c4_i32_153
  let c1_i32_154 : BitVec 32 := 1#32
  let v159 : BitVec 32 := Scalar.addi v158 c1_i32_154
  let v174 : Index := Scalar.indexCast v159
  let c32_159 : Index := 32#32
  ![v174.toNat, 32]
def k0_off242 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_153 : BitVec 32 := 4#32
  let v158 : BitVec 32 := Scalar.muli arg21 c4_i32_153
  let c1_i32_154 : BitVec 32 := 1#32
  let v159 : BitVec 32 := Scalar.addi v158 c1_i32_154
  let v177 : Index := Scalar.indexCast v159
  let c48_160 : Index := 48#32
  ![v177.toNat, 48]
def k0_off243 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_153 : BitVec 32 := 4#32
  let v158 : BitVec 32 := Scalar.muli arg21 c4_i32_153
  let c1_i32_154 : BitVec 32 := 1#32
  let v159 : BitVec 32 := Scalar.addi v158 c1_i32_154
  let v180 : Index := Scalar.indexCast v159
  let c64_161 : Index := 64#32
  ![v180.toNat, 64]

def k0_chk30 (v3 : IVec S16 32) (v4 : IVec S16 32) (v5 : IVec S16 32) (v6 : IVec S16 32) (v7 : IVec S16 32) (v8 : IVec S16 32) (v9 : IVec S16 32) (v10 : IVec S16 32) (v160 : IVec S16 32) : Prop :=
  (∀ a x, ((![v160, v3] : Fin 2 → IVec S16 32) a x).toNat < S64x256.size a) ∧
  (∀ a x, ((![v160, v4] : Fin 2 → IVec S16 32) a x).toNat < S64x256.size a) ∧
  (∀ a x, ((![v160, v5] : Fin 2 → IVec S16 32) a x).toNat < S64x256.size a) ∧
  (∀ a x, ((![v160, v6] : Fin 2 → IVec S16 32) a x).toNat < S64x256.size a) ∧
  (∀ a x, ((![v160, v7] : Fin 2 → IVec S16 32) a x).toNat < S64x256.size a) ∧
  (∀ a x, ((![v160, v8] : Fin 2 → IVec S16 32) a x).toNat < S64x256.size a) ∧
  (∀ a x, ((![v160, v9] : Fin 2 → IVec S16 32) a x).toNat < S64x256.size a) ∧
  (∀ a x, ((![v160, v10] : Fin 2 → IVec S16 32) a x).toNat < S64x256.size a)
theorem k0_idx233_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw30 : k0_chk30 v3 v4 v5 v6 v7 v8 v9 v10 v160), ∀ a x, ((![v160, v3] : Fin 2 → IVec S16 32) a x).toNat < S64x256.size a := fun v3 v4 v5 v6 v7 v8 v9 v10 v160 k0_hw30 => k0_hw30.1
theorem k0_idx234_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw30 : k0_chk30 v3 v4 v5 v6 v7 v8 v9 v10 v160), ∀ a x, ((![v160, v4] : Fin 2 → IVec S16 32) a x).toNat < S64x256.size a := fun v3 v4 v5 v6 v7 v8 v9 v10 v160 k0_hw30 => k0_hw30.2.1
theorem k0_idx235_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw30 : k0_chk30 v3 v4 v5 v6 v7 v8 v9 v10 v160), ∀ a x, ((![v160, v5] : Fin 2 → IVec S16 32) a x).toNat < S64x256.size a := fun v3 v4 v5 v6 v7 v8 v9 v10 v160 k0_hw30 => k0_hw30.2.2.1
theorem k0_idx236_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw30 : k0_chk30 v3 v4 v5 v6 v7 v8 v9 v10 v160), ∀ a x, ((![v160, v6] : Fin 2 → IVec S16 32) a x).toNat < S64x256.size a := fun v3 v4 v5 v6 v7 v8 v9 v10 v160 k0_hw30 => k0_hw30.2.2.2.1
theorem k0_idx237_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw30 : k0_chk30 v3 v4 v5 v6 v7 v8 v9 v10 v160), ∀ a x, ((![v160, v7] : Fin 2 → IVec S16 32) a x).toNat < S64x256.size a := fun v3 v4 v5 v6 v7 v8 v9 v10 v160 k0_hw30 => k0_hw30.2.2.2.2.1
theorem k0_idx238_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw30 : k0_chk30 v3 v4 v5 v6 v7 v8 v9 v10 v160), ∀ a x, ((![v160, v8] : Fin 2 → IVec S16 32) a x).toNat < S64x256.size a := fun v3 v4 v5 v6 v7 v8 v9 v10 v160 k0_hw30 => k0_hw30.2.2.2.2.2.1
theorem k0_idx239_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw30 : k0_chk30 v3 v4 v5 v6 v7 v8 v9 v10 v160), ∀ a x, ((![v160, v9] : Fin 2 → IVec S16 32) a x).toNat < S64x256.size a := fun v3 v4 v5 v6 v7 v8 v9 v10 v160 k0_hw30 => k0_hw30.2.2.2.2.2.2.1
theorem k0_idx240_inb : ∀ (v3 : IVec S16 32) (v4 : IVec S16 32) (v5 : IVec S16 32) (v6 : IVec S16 32) (v7 : IVec S16 32) (v8 : IVec S16 32) (v9 : IVec S16 32) (v10 : IVec S16 32) (v160 : IVec S16 32) (k0_hw30 : k0_chk30 v3 v4 v5 v6 v7 v8 v9 v10 v160), ∀ a x, ((![v160, v10] : Fin 2 → IVec S16 32) a x).toNat < S64x256.size a := fun v3 v4 v5 v6 v7 v8 v9 v10 v160 k0_hw30 => k0_hw30.2.2.2.2.2.2.2
def k0_off244 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_153 : BitVec 32 := 4#32
  let v158 : BitVec 32 := Scalar.muli arg21 c4_i32_153
  let c1_i32_154 : BitVec 32 := 1#32
  let v159 : BitVec 32 := Scalar.addi v158 c1_i32_154
  let v183 : Index := Scalar.indexCast v159
  let c80_162 : Index := 80#32
  ![v183.toNat, 80]
def k0_off245 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_163 : BitVec 32 := 4#32
  let v185 : BitVec 32 := Scalar.muli arg21 c4_i32_163
  let c2_i32_164 : BitVec 32 := 2#32
  let v186 : BitVec 32 := Scalar.addi v185 c2_i32_164
  let v189 : Index := Scalar.indexCast v186
  let c0_165 : Index := 0#32
  ![v189.toNat, 0]
def k0_off246 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_163 : BitVec 32 := 4#32
  let v185 : BitVec 32 := Scalar.muli arg21 c4_i32_163
  let c2_i32_164 : BitVec 32 := 2#32
  let v186 : BitVec 32 := Scalar.addi v185 c2_i32_164
  let v192 : Index := Scalar.indexCast v186
  let c16_166 : Index := 16#32
  ![v192.toNat, 16]
def k0_off247 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_163 : BitVec 32 := 4#32
  let v185 : BitVec 32 := Scalar.muli arg21 c4_i32_163
  let c2_i32_164 : BitVec 32 := 2#32
  let v186 : BitVec 32 := Scalar.addi v185 c2_i32_164
  let v195 : Index := Scalar.indexCast v186
  let c0_167 : Index := 0#32
  ![v195.toNat, 0]
def k0_off248 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_163 : BitVec 32 := 4#32
  let v185 : BitVec 32 := Scalar.muli arg21 c4_i32_163
  let c2_i32_164 : BitVec 32 := 2#32
  let v186 : BitVec 32 := Scalar.addi v185 c2_i32_164
  let v198 : Index := Scalar.indexCast v186
  let c16_168 : Index := 16#32
  ![v198.toNat, 16]
def k0_off249 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_163 : BitVec 32 := 4#32
  let v185 : BitVec 32 := Scalar.muli arg21 c4_i32_163
  let c2_i32_164 : BitVec 32 := 2#32
  let v186 : BitVec 32 := Scalar.addi v185 c2_i32_164
  let v201 : Index := Scalar.indexCast v186
  let c32_169 : Index := 32#32
  ![v201.toNat, 32]
def k0_off250 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_163 : BitVec 32 := 4#32
  let v185 : BitVec 32 := Scalar.muli arg21 c4_i32_163
  let c2_i32_164 : BitVec 32 := 2#32
  let v186 : BitVec 32 := Scalar.addi v185 c2_i32_164
  let v204 : Index := Scalar.indexCast v186
  let c48_170 : Index := 48#32
  ![v204.toNat, 48]
def k0_off251 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_163 : BitVec 32 := 4#32
  let v185 : BitVec 32 := Scalar.muli arg21 c4_i32_163
  let c2_i32_164 : BitVec 32 := 2#32
  let v186 : BitVec 32 := Scalar.addi v185 c2_i32_164
  let v207 : Index := Scalar.indexCast v186
  let c64_171 : Index := 64#32
  ![v207.toNat, 64]

def k0_chk31 (v3 : IVec S16 32) (v4 : IVec S16 32) (v5 : IVec S16 32) (v6 : IVec S16 32) (v7 : IVec S16 32) (v8 : IVec S16 32) (v9 : IVec S16 32) (v10 : IVec S16 32) (v187 : IVec S16 32) : Prop :=
  (∀ a x, ((![v187, v3] : Fin 2 → IVec S16 32) a x).toNat < S64x256.size a) ∧
  (∀ a x, ((![v187, v4] : Fin 2 → IVec S16 32) a x).toNat < S64x256.size a) ∧
  (∀ a x, ((![v187, v5] : Fin 2 → IVec S16 32) a x).toNat < S64x256.size a) ∧
  (∀ a x, ((![v187, v6] : Fin 2 → IVec S16 32) a x).toNat < S64x256.size a) ∧
  (∀ a x, ((![v187, v7] : Fin 2 → IVec S16 32) a x).toNat < S64x256.size a) ∧
  (∀ a x, ((![v187, v8] : Fin 2 → IVec S16 32) a x).toNat < S64x256.size a) ∧
  (∀ a x, ((![v187, v9] : Fin 2 → IVec S16 32) a x).toNat < S64x256.size a) ∧
  (∀ a x, ((![v187, v10] : Fin 2 → IVec S16 32) a x).toNat < S64x256.size a)
theorem k0_idx241_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw31 : k0_chk31 v3 v4 v5 v6 v7 v8 v9 v10 v187), ∀ a x, ((![v187, v3] : Fin 2 → IVec S16 32) a x).toNat < S64x256.size a := fun v3 v4 v5 v6 v7 v8 v9 v10 v187 k0_hw31 => k0_hw31.1
theorem k0_idx242_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw31 : k0_chk31 v3 v4 v5 v6 v7 v8 v9 v10 v187), ∀ a x, ((![v187, v4] : Fin 2 → IVec S16 32) a x).toNat < S64x256.size a := fun v3 v4 v5 v6 v7 v8 v9 v10 v187 k0_hw31 => k0_hw31.2.1
theorem k0_idx243_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw31 : k0_chk31 v3 v4 v5 v6 v7 v8 v9 v10 v187), ∀ a x, ((![v187, v5] : Fin 2 → IVec S16 32) a x).toNat < S64x256.size a := fun v3 v4 v5 v6 v7 v8 v9 v10 v187 k0_hw31 => k0_hw31.2.2.1
theorem k0_idx244_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw31 : k0_chk31 v3 v4 v5 v6 v7 v8 v9 v10 v187), ∀ a x, ((![v187, v6] : Fin 2 → IVec S16 32) a x).toNat < S64x256.size a := fun v3 v4 v5 v6 v7 v8 v9 v10 v187 k0_hw31 => k0_hw31.2.2.2.1
theorem k0_idx245_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw31 : k0_chk31 v3 v4 v5 v6 v7 v8 v9 v10 v187), ∀ a x, ((![v187, v7] : Fin 2 → IVec S16 32) a x).toNat < S64x256.size a := fun v3 v4 v5 v6 v7 v8 v9 v10 v187 k0_hw31 => k0_hw31.2.2.2.2.1
theorem k0_idx246_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw31 : k0_chk31 v3 v4 v5 v6 v7 v8 v9 v10 v187), ∀ a x, ((![v187, v8] : Fin 2 → IVec S16 32) a x).toNat < S64x256.size a := fun v3 v4 v5 v6 v7 v8 v9 v10 v187 k0_hw31 => k0_hw31.2.2.2.2.2.1
theorem k0_idx247_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw31 : k0_chk31 v3 v4 v5 v6 v7 v8 v9 v10 v187), ∀ a x, ((![v187, v9] : Fin 2 → IVec S16 32) a x).toNat < S64x256.size a := fun v3 v4 v5 v6 v7 v8 v9 v10 v187 k0_hw31 => k0_hw31.2.2.2.2.2.2.1
theorem k0_idx248_inb : ∀ (v3 : IVec S16 32) (v4 : IVec S16 32) (v5 : IVec S16 32) (v6 : IVec S16 32) (v7 : IVec S16 32) (v8 : IVec S16 32) (v9 : IVec S16 32) (v10 : IVec S16 32) (v187 : IVec S16 32) (k0_hw31 : k0_chk31 v3 v4 v5 v6 v7 v8 v9 v10 v187), ∀ a x, ((![v187, v10] : Fin 2 → IVec S16 32) a x).toNat < S64x256.size a := fun v3 v4 v5 v6 v7 v8 v9 v10 v187 k0_hw31 => k0_hw31.2.2.2.2.2.2.2
def k0_off252 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_163 : BitVec 32 := 4#32
  let v185 : BitVec 32 := Scalar.muli arg21 c4_i32_163
  let c2_i32_164 : BitVec 32 := 2#32
  let v186 : BitVec 32 := Scalar.addi v185 c2_i32_164
  let v210 : Index := Scalar.indexCast v186
  let c80_172 : Index := 80#32
  ![v210.toNat, 80]
def k0_off253 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_173 : BitVec 32 := 4#32
  let v212 : BitVec 32 := Scalar.muli arg21 c4_i32_173
  let c3_i32 : BitVec 32 := 3#32
  let v213 : BitVec 32 := Scalar.addi v212 c3_i32
  let v216 : Index := Scalar.indexCast v213
  let c0_174 : Index := 0#32
  ![v216.toNat, 0]
def k0_off254 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_173 : BitVec 32 := 4#32
  let v212 : BitVec 32 := Scalar.muli arg21 c4_i32_173
  let c3_i32 : BitVec 32 := 3#32
  let v213 : BitVec 32 := Scalar.addi v212 c3_i32
  let v219 : Index := Scalar.indexCast v213
  let c16_175 : Index := 16#32
  ![v219.toNat, 16]
def k0_off255 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_173 : BitVec 32 := 4#32
  let v212 : BitVec 32 := Scalar.muli arg21 c4_i32_173
  let c3_i32 : BitVec 32 := 3#32
  let v213 : BitVec 32 := Scalar.addi v212 c3_i32
  let v222 : Index := Scalar.indexCast v213
  let c0_176 : Index := 0#32
  ![v222.toNat, 0]
def k0_off256 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_173 : BitVec 32 := 4#32
  let v212 : BitVec 32 := Scalar.muli arg21 c4_i32_173
  let c3_i32 : BitVec 32 := 3#32
  let v213 : BitVec 32 := Scalar.addi v212 c3_i32
  let v225 : Index := Scalar.indexCast v213
  let c16_177 : Index := 16#32
  ![v225.toNat, 16]
def k0_off257 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_173 : BitVec 32 := 4#32
  let v212 : BitVec 32 := Scalar.muli arg21 c4_i32_173
  let c3_i32 : BitVec 32 := 3#32
  let v213 : BitVec 32 := Scalar.addi v212 c3_i32
  let v228 : Index := Scalar.indexCast v213
  let c32_178 : Index := 32#32
  ![v228.toNat, 32]
def k0_off258 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_173 : BitVec 32 := 4#32
  let v212 : BitVec 32 := Scalar.muli arg21 c4_i32_173
  let c3_i32 : BitVec 32 := 3#32
  let v213 : BitVec 32 := Scalar.addi v212 c3_i32
  let v231 : Index := Scalar.indexCast v213
  let c48_179 : Index := 48#32
  ![v231.toNat, 48]
def k0_off259 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_173 : BitVec 32 := 4#32
  let v212 : BitVec 32 := Scalar.muli arg21 c4_i32_173
  let c3_i32 : BitVec 32 := 3#32
  let v213 : BitVec 32 := Scalar.addi v212 c3_i32
  let v234 : Index := Scalar.indexCast v213
  let c64_180 : Index := 64#32
  ![v234.toNat, 64]

def k0_chk32 (v3 : IVec S16 32) (v4 : IVec S16 32) (v5 : IVec S16 32) (v6 : IVec S16 32) (v7 : IVec S16 32) (v8 : IVec S16 32) (v9 : IVec S16 32) (v10 : IVec S16 32) (v214 : IVec S16 32) : Prop :=
  (∀ a x, ((![v214, v3] : Fin 2 → IVec S16 32) a x).toNat < S64x256.size a) ∧
  (∀ a x, ((![v214, v4] : Fin 2 → IVec S16 32) a x).toNat < S64x256.size a) ∧
  (∀ a x, ((![v214, v5] : Fin 2 → IVec S16 32) a x).toNat < S64x256.size a) ∧
  (∀ a x, ((![v214, v6] : Fin 2 → IVec S16 32) a x).toNat < S64x256.size a) ∧
  (∀ a x, ((![v214, v7] : Fin 2 → IVec S16 32) a x).toNat < S64x256.size a) ∧
  (∀ a x, ((![v214, v8] : Fin 2 → IVec S16 32) a x).toNat < S64x256.size a) ∧
  (∀ a x, ((![v214, v9] : Fin 2 → IVec S16 32) a x).toNat < S64x256.size a) ∧
  (∀ a x, ((![v214, v10] : Fin 2 → IVec S16 32) a x).toNat < S64x256.size a)
theorem k0_idx249_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw32 : k0_chk32 v3 v4 v5 v6 v7 v8 v9 v10 v214), ∀ a x, ((![v214, v3] : Fin 2 → IVec S16 32) a x).toNat < S64x256.size a := fun v3 v4 v5 v6 v7 v8 v9 v10 v214 k0_hw32 => k0_hw32.1
theorem k0_idx250_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw32 : k0_chk32 v3 v4 v5 v6 v7 v8 v9 v10 v214), ∀ a x, ((![v214, v4] : Fin 2 → IVec S16 32) a x).toNat < S64x256.size a := fun v3 v4 v5 v6 v7 v8 v9 v10 v214 k0_hw32 => k0_hw32.2.1
theorem k0_idx251_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw32 : k0_chk32 v3 v4 v5 v6 v7 v8 v9 v10 v214), ∀ a x, ((![v214, v5] : Fin 2 → IVec S16 32) a x).toNat < S64x256.size a := fun v3 v4 v5 v6 v7 v8 v9 v10 v214 k0_hw32 => k0_hw32.2.2.1
theorem k0_idx252_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw32 : k0_chk32 v3 v4 v5 v6 v7 v8 v9 v10 v214), ∀ a x, ((![v214, v6] : Fin 2 → IVec S16 32) a x).toNat < S64x256.size a := fun v3 v4 v5 v6 v7 v8 v9 v10 v214 k0_hw32 => k0_hw32.2.2.2.1
theorem k0_idx253_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw32 : k0_chk32 v3 v4 v5 v6 v7 v8 v9 v10 v214), ∀ a x, ((![v214, v7] : Fin 2 → IVec S16 32) a x).toNat < S64x256.size a := fun v3 v4 v5 v6 v7 v8 v9 v10 v214 k0_hw32 => k0_hw32.2.2.2.2.1
theorem k0_idx254_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw32 : k0_chk32 v3 v4 v5 v6 v7 v8 v9 v10 v214), ∀ a x, ((![v214, v8] : Fin 2 → IVec S16 32) a x).toNat < S64x256.size a := fun v3 v4 v5 v6 v7 v8 v9 v10 v214 k0_hw32 => k0_hw32.2.2.2.2.2.1
theorem k0_idx255_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw32 : k0_chk32 v3 v4 v5 v6 v7 v8 v9 v10 v214), ∀ a x, ((![v214, v9] : Fin 2 → IVec S16 32) a x).toNat < S64x256.size a := fun v3 v4 v5 v6 v7 v8 v9 v10 v214 k0_hw32 => k0_hw32.2.2.2.2.2.2.1
theorem k0_idx256_inb : ∀ (v3 : IVec S16 32) (v4 : IVec S16 32) (v5 : IVec S16 32) (v6 : IVec S16 32) (v7 : IVec S16 32) (v8 : IVec S16 32) (v9 : IVec S16 32) (v10 : IVec S16 32) (v214 : IVec S16 32) (k0_hw32 : k0_chk32 v3 v4 v5 v6 v7 v8 v9 v10 v214), ∀ a x, ((![v214, v10] : Fin 2 → IVec S16 32) a x).toNat < S64x256.size a := fun v3 v4 v5 v6 v7 v8 v9 v10 v214 k0_hw32 => k0_hw32.2.2.2.2.2.2.2
def k0_off260 (k0_t8 : Fin k0_t8_loop.trips) : Fin 2 → Nat :=
  let c0_i32_127 : BitVec 32 := 0#32
  let c1_i32_129 : BitVec 32 := 1#32
  let arg21 : BitVec 32 := Scf.iv c0_i32_127 c1_i32_129 k0_t8
  let c4_i32_173 : BitVec 32 := 4#32
  let v212 : BitVec 32 := Scalar.muli arg21 c4_i32_173
  let c3_i32 : BitVec 32 := 3#32
  let v213 : BitVec 32 := Scalar.addi v212 c3_i32
  let v237 : Index := Scalar.indexCast v213
  let c80_181 : Index := 80#32
  ![v237.toNat, 80]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x4096 : Shape := ⟨2, ![16384, 4096]⟩
abbrev S32 : Shape := ⟨1, ![32]⟩
abbrev S96 : Shape := ⟨1, ![96]⟩
abbrev S_ : Shape := ⟨0, ![]⟩
abbrev S32x1 : Shape := ⟨2, ![32, 1]⟩
abbrev S1 : Shape := ⟨1, ![1]⟩
abbrev S1x1 : Shape := ⟨2, ![1, 1]⟩
abbrev S16384x32 : Shape := ⟨2, ![16384, 32]⟩
abbrev S96x1 : Shape := ⟨2, ![96, 1]⟩
abbrev S16384x96 : Shape := ⟨2, ![16384, 96]⟩

abbrev nBuf : Space → Nat
  | .hbm => 49
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S32, .i32⟩
  | .hbm, ⟨2, _⟩ => ⟨S96, .i32⟩
  | .hbm, ⟨3, _⟩ => ⟨S_, .i32⟩
  | .hbm, ⟨4, _⟩ => ⟨S32, .i32⟩
  | .hbm, ⟨5, _⟩ => ⟨S32, .i1⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S32, .i32⟩
  | .hbm, ⟨10, _⟩ => ⟨S32x1, .i32⟩
  | .hbm, ⟨11, _⟩ => ⟨S1, .i32⟩
  | .hbm, ⟨12, _⟩ => ⟨S_, .i32⟩
  | .hbm, ⟨13, _⟩ => ⟨S32x1, .i32⟩
  | .hbm, ⟨14, _⟩ => ⟨S32x1, .i1⟩
  | .hbm, ⟨15, _⟩ => ⟨S1x1, .i32⟩
  | .hbm, ⟨16, _⟩ => ⟨S32x1, .i32⟩
  | .hbm, ⟨17, _⟩ => ⟨S32x1, .i1⟩
  | .hbm, ⟨18, _⟩ => ⟨S32x1, .i1⟩
  | .hbm, ⟨19, _⟩ => ⟨S_, .i1⟩
  | .hbm, ⟨20, _⟩ => ⟨S32, .i1⟩
  | .hbm, ⟨21, _⟩ => ⟨S16384x32, .f32⟩
  | .hbm, ⟨22, _⟩ => ⟨S16384x32, .i1⟩
  | .hbm, ⟨23, _⟩ => ⟨S_, .f32⟩
  | .hbm, ⟨24, _⟩ => ⟨S16384x32, .f32⟩
  | .hbm, ⟨25, _⟩ => ⟨S16384x32, .f32⟩
  | .hbm, ⟨26, _⟩ => ⟨S_, .i32⟩
  | .hbm, ⟨27, _⟩ => ⟨S96, .i32⟩
  | .hbm, ⟨28, _⟩ => ⟨S96, .i1⟩
  | .hbm, ⟨29, _⟩ => ⟨S_, .i32⟩
  | .hbm, ⟨30, _⟩ => ⟨S96, .i32⟩
  | .hbm, ⟨31, _⟩ => ⟨S96, .i32⟩
  | .hbm, ⟨32, _⟩ => ⟨S96, .i32⟩
  | .hbm, ⟨33, _⟩ => ⟨S96x1, .i32⟩
  | .hbm, ⟨34, _⟩ => ⟨S1, .i32⟩
  | .hbm, ⟨35, _⟩ => ⟨S_, .i32⟩
  | .hbm, ⟨36, _⟩ => ⟨S96x1, .i32⟩
  | .hbm, ⟨37, _⟩ => ⟨S96x1, .i1⟩
  | .hbm, ⟨38, _⟩ => ⟨S1x1, .i32⟩
  | .hbm, ⟨39, _⟩ => ⟨S96x1, .i32⟩
  | .hbm, ⟨40, _⟩ => ⟨S96x1, .i1⟩
  | .hbm, ⟨41, _⟩ => ⟨S96x1, .i1⟩
  | .hbm, ⟨42, _⟩ => ⟨S_, .i1⟩
  | .hbm, ⟨43, _⟩ => ⟨S96, .i1⟩
  | .hbm, ⟨44, _⟩ => ⟨S16384x96, .f32⟩
  | .hbm, ⟨45, _⟩ => ⟨S16384x96, .i1⟩
  | .hbm, ⟨46, _⟩ => ⟨S_, .f32⟩
  | .hbm, ⟨47, _⟩ => ⟨S16384x96, .f32⟩
  | .hbm, ⟨48, _⟩ => ⟨S16384x96, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩

abbrev nD : Nat := 1
abbrev τ : Topo := Topo.v7x

variable {F : FTy → Type} [FloatOps F]
-- ==== Proof.Base.lean ====
/-
  The kernel as the launch theorem sees it, the resource algebra the proof is carried out in, and the names
  every other module uses: the threads' spelling, the buffers' locations, a task's number.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Writes
public import Idealize.ShloMosaic.Lib.Tactic
public import proofs.«01_k».proof.Proof.Gen.KernelIdeal
public import proofs.«01_k».proof.Proof.Gen.KernelIdeal.Skeleton

@[expose] public section

noncomputable section

namespace Cert.Proof.Columns

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

abbrev EH : Emb UH (MT nD τ sig (HIx 1) (Elt F) ℕ UU ℕ) := embL

/-! ## A task: its core, its subcore, its thread -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- A 64-row block of `n` columns. -/
abbrev S64n (n : ℕ) : Shape := ⟨2, ![64, n]⟩

end Cert.Proof.Columns

end
-- ==== Proof.Trip.lean ====
/-
  One trip of a row loop as a program of the proof's own: four rows, each eight indexed loads of sixteen lanes from
  the staged window, two stored into the row of the first output block, six into the row of the second. All eight
  row loops of the kernel are this program at their own buffers.
-/
module

public import proofs.«01_k».proof.Proof.Base

@[expose] public section

noncomputable section

namespace Cert.Proof.Columns

open Cert.KernelIdeal Cert.KernelIdeal.Gen
open Idealize.ShloMosaic Idealize.SL.Sem

variable {F : FTy → Type} [FloatOps F]

/-- A task's effects. -/
abbrev TileEff (F : FTy → Type) (L : grid0.Coords) := TpuEff nD τ sig (Elt F) Λ₀ (.scVector (cV L) (jV L))

/-- Where sixteen columns of row `w` start. -/
abbrev rowOff (w : BitVec 32) (j : ℕ) : Fin 2 → ℕ := ![(Scalar.indexCast w : Index).toNat, j]

/-- Sixteen lanes: gathered from the window at `idx`, stored at `off` of the output block. -/
def lanes (L : grid0.Coords) {n : ℕ} (inM : Memref sig .scVector .vmem S64x256 .f32) (oM : Memref sig .scVector .vmem (S64n n) .f32)
    (idx : Fin 2 → IVec S16 32) (h : ∀ a x, (idx a x).toNat < S64x256.size a)
    (off : Fin 2 → ℕ) (hoff : ∀ a, off a + S1x16.size a ≤ (S64n n).size a) : Prog (TileEff F L) PUnit := do
  let x : Vec F S16 .f32 ← SparseCore.vectorLoadIdx inM idx h (View.loads_vmem h_S64x256)
  let _ : Vec F S1x16 .f32 ← Prog.lift (.load oM (Rect.unit (s := S64n n) off S1x16.size hoff).toLoadRect (View.loadsAt_vmem h_S1x16))
  Prog.lift (.store oM (Rect.unit (s := S64n n) off S1x16.size hoff) (shapeCast S1x16 x shapeCasts_S16_S1x16) Finset.univ (View.stores_vmem_bits_univ h_S1x16 rfl) (.inl rfl))

theorem rowOff_inb {n j : ℕ} {w : BitVec 32} (hw : (Scalar.indexCast w : Index).toNat < 64) (hj : j + 16 ≤ n) :
    ∀ a, rowOff w j a + S1x16.size a ≤ (S64n n).size a :=
  Fin.forall_fin_two.mpr ⟨hw, hj⟩

/-- A row's eight groups of lanes, the indices known to be within the window. -/
def groups (L : grid0.Coords) (inM : Memref sig .scVector .vmem S64x256 .f32) (obM : Memref sig .scVector .vmem S64x32 .f32)
    (onM : Memref sig .scVector .vmem S64x96 .f32) (v3 v4 v5 v6 v7 v8 v9 v10 : IVec S16 32)
    (w : BitVec 32) (hw : (Scalar.indexCast w : Index).toNat < 64)
    (hq : k0_chk1 v3 v4 v5 v6 v7 v8 v9 v10 (broadcast S16 w)) : Prog (TileEff F L) PUnit := do
  lanes L inM obM ![broadcast S16 w, v3] hq.1 (rowOff w 0) (rowOff_inb hw (by decide))
  lanes L inM obM ![broadcast S16 w, v4] hq.2.1 (rowOff w 16) (rowOff_inb hw (by decide))
  lanes L inM onM ![broadcast S16 w, v5] hq.2.2.1 (rowOff w 0) (rowOff_inb hw (by decide))
  lanes L inM onM ![broadcast S16 w, v6] hq.2.2.2.1 (rowOff w 16) (rowOff_inb hw (by decide))
  lanes L inM onM ![broadcast S16 w, v7] hq.2.2.2.2.1 (rowOff w 32) (rowOff_inb hw (by decide))
  lanes L inM onM ![broadcast S16 w, v8] hq.2.2.2.2.2.1 (rowOff w 48) (rowOff_inb hw (by decide))
  lanes L inM onM ![broadcast S16 w, v9] hq.2.2.2.2.2.2.1 (rowOff w 64) (rowOff_inb hw (by decide))
  lanes L inM onM ![broadcast S16 w, v10] hq.2.2.2.2.2.2.2 (rowOff w 80) (rowOff_inb hw (by decide))

/-- One row: the indices checked, then the groups. -/
def row (L : grid0.Coords) (inM : Memref sig .scVector .vmem S64x256 .f32) (obM : Memref sig .scVector .vmem S64x32 .f32)
    (onM : Memref sig .scVector .vmem S64x96 .f32) (v3 v4 v5 v6 v7 v8 v9 v10 : IVec S16 32)
    (w : BitVec 32) (hw : (Scalar.indexCast w : Index).toNat < 64) : Prog (TileEff F L) PUnit := do
  let q : IVec S16 32 := broadcast S16 w
  let hq ← Prog.lift (TpuEff.assume (k0_chk1 v3 v4 v5 v6 v7 v8 v9 v10 q) (k0_chk1.dec v3 v4 v5 v6 v7 v8 v9 v10 q))
  groups L inM obM onM v3 v4 v5 v6 v7 v8 v9 v10 w hw hq.down

/-- The row trip `t` handles as its `r`-th, as the kernel computes it. -/
abbrev rowWord (t : Fin k0_t1_loop.trips) (r : BitVec 32) : BitVec 32 := Scalar.addi (Scalar.muli (Scf.iv 0#32 1#32 t) 4#32) r

theorem rowWord_lt : ∀ (t : Fin k0_t1_loop.trips) (r : Fin 4), (Scalar.indexCast (rowWord t (BitVec.ofNat 32 r.val)) : Index).toNat = 4 * t.val + r.val := by decide +kernel
theorem trips_eq : k0_t1_loop.trips = 16 := by decide +kernel
theorem rowWord_inb (t : Fin k0_t1_loop.trips) (r : Fin 4) : (Scalar.indexCast (rowWord t (BitVec.ofNat 32 r.val)) : Index).toNat < 64 := by
  rw [rowWord_lt]; have := Nat.lt_of_lt_of_eq t.isLt trips_eq; omega

/-- A trip: four rows. -/
def trip (L : grid0.Coords) (inM : Memref sig .scVector .vmem S64x256 .f32) (obM : Memref sig .scVector .vmem S64x32 .f32)
    (onM : Memref sig .scVector .vmem S64x96 .f32) (v3 v4 v5 v6 v7 v8 v9 v10 : IVec S16 32)
    (t : Fin k0_t1_loop.trips) (_ : Unit) : Prog (TileEff F L) Unit := do
  row L inM obM onM v3 v4 v5 v6 v7 v8 v9 v10 (rowWord t 0#32) (rowWord_inb t 0)
  row L inM obM onM v3 v4 v5 v6 v7 v8 v9 v10 (rowWord t 1#32) (rowWord_inb t 1)
  row L inM obM onM v3 v4 v5 v6 v7 v8 v9 v10 (rowWord t 2#32) (rowWord_inb t 2)
  row L inM obM onM v3 v4 v5 v6 v7 v8 v9 v10 (rowWord t 3#32) (rowWord_inb t 3)

end Cert.Proof.Columns

end
-- ==== Proof.TripRun.lean ====
/-
  A trip's run: from the window and the two output blocks held whole, the blocks' rows below `4 t` done, to the same
  with the rows below `4 t + 4` done. The values are those of two functions `G` of the blocks' positions, of which
  the proof asks only that the window holds them at the columns the index vectors name.
-/
module

public import proofs.«01_k».proof.Proof.Trip

@[expose] public section

noncomputable section

namespace Cert.Proof.Columns

open Cert.KernelIdeal Cert.KernelIdeal.Gen
open Idealize.ShloMosaic
open Idealize.ShloMosaic.SparseCore (S V T)
open Idealize.ShloMosaic.SparseCore.Cfg (HIx)
open Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Of an output block: the rows before `r`, and of row `r` the columns before `c`, hold `G`. -/
def Done {n : ℕ} (oM : Memref sig .scVector .vmem (S64n n) .f32) (G : (S64n n).Idx → Elt F .f32) (r c : ℕ)
    (g : oM.view.ty.Contents (Elt F)) : Prop :=
  ∀ x : (S64n n).Idx, ((x 0).val < r ∨ (x 0).val = r ∧ (x 1).val < c) → oM.view.read (Elt F) g x = G x

/-- What the index vector `v` names from column `c` on: the columns `G` is read from. -/
def Names {n : ℕ} (w : S64x256.Idx → Elt F .f32) (G : (S64n n).Idx → Elt F .f32) (c : ℕ) (v : IVec S16 32) : Prop :=
  ∀ (x : (S64n n).Idx) (l : S16.Idx), (x 1).val = c + (l 0).val → ∀ y : S64x256.Idx, (y 0).val = (x 0).val → (y 1).val = (v l).toNat → w y = G x

theorem done_lanes {n : ℕ} {oM : Memref sig .scVector .vmem (S64n n) .f32} {G : (S64n n).Idx → Elt F .f32} {r c : ℕ}
    {g : oM.view.ty.Contents (Elt F)} (hg : Done oM G r c g) {w : S64x256.Idx → Elt F .f32} {v q : IVec S16 32}
    (hv : Names w G c v) (hq : ∀ l, (q l).toNat = r) (h : ∀ a x, ((![q, v] : Fin 2 → IVec S16 32) a x).toNat < S64x256.size a)
    {off : Fin 2 → ℕ} (hoff : ∀ a, off a + S1x16.size a ≤ (S64n n).size a) (h0 : off 0 = r) (h1 : off 1 = c) :
    Done oM G r (c + 16) ((oM.access (Rect.unit (s := S64n n) off S1x16.size hoff)).write (Elt F) g
      (shapeCast S1x16 (loadIdx w ![q, v] h) shapeCasts_S16_S1x16) Finset.univ) := by
  intro x hx
  by_cases hm : x ∈ (Rect.unit (s := S64n n) off S1x16.size hoff).set
  · obtain ⟨y, hy⟩ := (Rect.unit (s := S64n n) off S1x16.size hoff).exists_idx_of_mem hm
    have y0 : (y 0).val < 1 := (y 0).isLt
    subst hy
    refine (View.read_slice_write_emb _ _ _ (Finset.mem_univ y)).trans ?_
    refine (shapeCast_addUnit_apply (![16] : Fin 1 → ℕ) _ _ y).trans ?_
    refine hv _ (fun a => y a.succ) ?_ _ ?_ rfl
    · show off 1 + 1 * (y 1).val = c + (y 1).val
      omega
    · show (q _).toNat = off 0 + 1 * (y 0).val
      exact (hq _).trans (by omega)
  · refine (View.read_slice_write_of_not_mem _ _ _ _ (by rwa [Rect.map_emb_univ])).trans (hg x ?_)
    rw [Rect.mem_set_unit, Fin.forall_fin_two, not_and_or] at hm
    rw [show S1x16.size 0 = 1 from rfl, show S1x16.size 1 = 16 from rfl] at hm
    omega

theorem read_whole_rect (inM : Memref sig .scVector .vmem S64x256 .f32) (f : inM.view.ty.Contents (Elt F)) :
    (inM.access (.whole S64x256)).read (Elt F) f = inM.view.read (Elt F) f :=
  funext fun x => congrArg (inM.view.read (Elt F) f) (funext fun a => Fin.ext (by
    show (Rect.whole S64x256).off a + (Rect.whole S64x256).stride a * (x a).val = (x a).val
    simp [Rect.whole]))

variable (d : Dev nD) (L : grid0.Coords)

/-- A group of lanes, run. -/
theorem wp_lanes {n : ℕ} {inM : Memref sig .scVector .vmem S64x256 .f32} {oM : Memref sig .scVector .vmem (S64n n) .f32}
    {v q : IVec S16 32} (h : ∀ a x, ((![q, v] : Fin 2 → IVec S16 32) a x).toNat < S64x256.size a)
    {off : Fin 2 → ℕ} (hoff : ∀ a, off a + S1x16.size a ≤ (S64n n).size a) {r c : ℕ} (h0 : off 0 = r) (h1 : off 1 = c)
    {G : (S64n n).Idx → Elt F .f32} {f : Buf (Elt F) (inM.view.loc (thr d L))}
    (hv : Names (inM.view.read (Elt F) f) G c v) (hq : ∀ l, (q l).toNat = r) :
    iprop((inM.view.loc (thr d L) ↦{fullShare} f) ∗ ∃ g, ⌜Done oM G r c g⌝ ∗ oM.view.loc (thr d L) ↦{fullShare} g)
      ⊢ (wp frame (wpE (defs₀ (F := F)) 𝒱₀ (thr d L) none) Set.univ (lanes L inM oM ![q, v] h off hoff)
          fun _ => iprop((inM.view.loc (thr d L) ↦{fullShare} f) ∗ ∃ g, ⌜Done oM G r (c + 16) g⌝ ∗ oM.view.loc (thr d L) ↦{fullShare} g) : sProp 𝕄) := by
  iintro ⟨Hi, %g, %hg, Ho⟩
  unfold lanes
  iapply (SparseCore.wp_vectorLoadIdx 𝒱₀ (thr d L) none Set.univ (base := inM) (S := Finset.univ) (q := fullShare) (f := f) (Finset.subset_univ _)) $$ Hi
  iintro Hi
  iapply (wp_load 𝒱₀ (thr d L) none Set.univ (m := oM) (S := Finset.univ) (Finset.subset_univ _)) $$ Ho
  iintro Ho
  iapply (wp_store 𝒱₀ (thr d L) none Set.univ (m := oM) (r := Rect.unit (s := S64n n) off S1x16.size hoff) (Mk := Finset.univ) (S := Finset.univ) (Finset.subset_univ _)) $$ Ho
  iintro Ho
  sl_step
  isplitl [Hi]; · iexact Hi
  iexists _; isplitr
  swap; · iexact Ho
  ipureintro
  exact done_lanes hg (by rw [read_whole_rect]; exact hv) hq h hoff h0 h1

end Cert.Proof.Columns

end
-- ==== Proof.RowRun.lean ====
/-
  A row loop's run: from a staged window and two output blocks at anything, sixteen trips of four rows leave the two
  blocks reading what the window holds at the columns the index lanes name.
-/
module

public import proofs.«01_k».proof.Proof.TripRun

@[expose] public section

noncomputable section

namespace Cert.Proof.Columns

open Cert.KernelIdeal Cert.KernelIdeal.Gen
open Idealize.ShloMosaic
open Idealize.ShloMosaic.SparseCore (S V T)
open Idealize.ShloMosaic.SparseCore.Cfg (HIx)
open Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords)
variable (inM : Memref sig .scVector .vmem S64x256 .f32) (obM : Memref sig .scVector .vmem S64x32 .f32) (onM : Memref sig .scVector .vmem S64x96 .f32)

/-- The eight lane vectors: each lane within the window, and together naming, for the first block's 32 columns and
    the second's 96, where the window `w` holds what `Gb` and `Gn` say. -/
structure Picks (w : S64x256.Idx → Elt F .f32) (Gb : S64x32.Idx → Elt F .f32) (Gn : S64x96.Idx → Elt F .f32)
    (v3 v4 v5 v6 v7 v8 v9 v10 : IVec S16 32) : Prop where
  lt : ∀ v ∈ [v3, v4, v5, v6, v7, v8, v9, v10], ∀ l, (v l).toNat < 256
  b0 : Names w Gb 0 v3
  b1 : Names w Gb 16 v4
  n0 : Names w Gn 0 v5
  n1 : Names w Gn 16 v6
  n2 : Names w Gn 32 v7
  n3 : Names w Gn 48 v8
  n4 : Names w Gn 64 v9
  n5 : Names w Gn 80 v10

/-- The window at `f`, the blocks done up to row `r`, and in that row up to column `cb` and `cn`. -/
def Held (f : Buf (Elt F) (inM.view.loc (thr d L))) (Gb : S64x32.Idx → Elt F .f32) (Gn : S64x96.Idx → Elt F .f32) (r cb cn : ℕ) : sProp 𝕄 :=
  iprop((inM.view.loc (thr d L) ↦{fullShare} f)
    ∗ (∃ g, ⌜Done obM Gb r cb g⌝ ∗ obM.view.loc (thr d L) ↦{fullShare} g)
    ∗ (∃ g, ⌜Done onM Gn r cn g⌝ ∗ onM.view.loc (thr d L) ↦{fullShare} g))

/-- One program after another. -/
theorem wp_then {α β : Type} {p : Prog (TileEff F L) α} {k : α → Prog (TileEff F L) β} {P Q : sProp 𝕄} {R : β → sProp 𝕄}
    (hp : P ⊢ wp frame (wpE (defs₀ (F := F)) 𝒱₀ (thr d L) none) Set.univ p fun _ => Q)
    (hk : ∀ x, Q ⊢ wp frame (wpE (defs₀ (F := F)) 𝒱₀ (thr d L) none) Set.univ (k x) R) :
    P ⊢ wp frame (wpE (defs₀ (F := F)) 𝒱₀ (thr d L) none) Set.univ (p >>= k) R := by
  rw [wp_bind]
  refine hp.trans ?_
  iintro H
  iapply (wp_wand_r frame _ _)
  isplitl [H]; · iexact H
  iintro %x H
  iapply (hk x); iexact H

section steps
variable {v q : IVec S16 32} {h : ∀ a x, ((![q, v] : Fin 2 → IVec S16 32) a x).toNat < S64x256.size a} {off : Fin 2 → ℕ}
variable {f : Buf (Elt F) (inM.view.loc (thr d L))} {Gb : S64x32.Idx → Elt F .f32} {Gn : S64x96.Idx → Elt F .f32} {r cb cn : ℕ}

theorem held_b (hoff : ∀ a, off a + S1x16.size a ≤ (S64n 32).size a) (h0 : off 0 = r) (h1 : off 1 = cb)
    (hv : Names (inM.view.read (Elt F) f) Gb cb v) (hq : ∀ l, (q l).toNat = r) :
    Held d L inM obM onM f Gb Gn r cb cn
      ⊢ wp frame (wpE (defs₀ (F := F)) 𝒱₀ (thr d L) none) Set.univ (lanes L inM obM ![q, v] h off hoff)
          fun _ => Held d L inM obM onM f Gb Gn r (cb + 16) cn := by
  unfold Held
  iintro ⟨Hi, Hb, Hn⟩
  iapply (wp_wand_r frame _ _)
  isplitl [Hi Hb]
  · iapply (wp_lanes d L h hoff h0 h1 hv hq)
    isplitl [Hi] <;> iassumption
  · iintro %_ ⟨Hi, Hb⟩
    isplitl [Hi]; · iexact Hi
    isplitl [Hb] <;> iassumption

theorem held_n (hoff : ∀ a, off a + S1x16.size a ≤ (S64n 96).size a) (h0 : off 0 = r) (h1 : off 1 = cn)
    (hv : Names (inM.view.read (Elt F) f) Gn cn v) (hq : ∀ l, (q l).toNat = r) :
    Held d L inM obM onM f Gb Gn r cb cn
      ⊢ wp frame (wpE (defs₀ (F := F)) 𝒱₀ (thr d L) none) Set.univ (lanes L inM onM ![q, v] h off hoff)
          fun _ => Held d L inM obM onM f Gb Gn r cb (cn + 16) := by
  unfold Held
  iintro ⟨Hi, Hb, Hn⟩
  iapply (wp_wand_r frame _ _)
  isplitl [Hi Hn]
  · iapply (wp_lanes d L h hoff h0 h1 hv hq)
    isplitl [Hi] <;> iassumption
  · iintro %_ ⟨Hi, Hn⟩
    isplitl [Hi]; · iexact Hi
    isplitl [Hb] <;> iassumption

end steps

/-- A row with all its columns is the next row with none. -/
theorem Done.next {n : ℕ} {oM : Memref sig .scVector .vmem (S64n n) .f32} {G : (S64n n).Idx → Elt F .f32} {r : ℕ}
    {g : oM.view.ty.Contents (Elt F)} (hg : Done oM G r n g) : Done oM G (r + 1) 0 g := fun x hx =>
  hg x (by have : (x 1).val < n := (x 1).isLt; omega)

variable {v3 v4 v5 v6 v7 v8 v9 v10 : IVec S16 32} {f : Buf (Elt F) (inM.view.loc (thr d L))}
variable {Gb : S64x32.Idx → Elt F .f32} {Gn : S64x96.Idx → Elt F .f32}

theorem wp_row (hp : Picks (inM.view.read (Elt F) f) Gb Gn v3 v4 v5 v6 v7 v8 v9 v10)
    {w : BitVec 32} (hw : (Scalar.indexCast w : Index).toNat < 64) {r : ℕ} (hr : (Scalar.indexCast w : Index).toNat = r) :
    Held d L inM obM onM f Gb Gn r 0 0
      ⊢ wp frame (wpE (defs₀ (F := F)) 𝒱₀ (thr d L) none) Set.univ (row L inM obM onM v3 v4 v5 v6 v7 v8 v9 v10 w hw)
          fun _ => Held d L inM obM onM f Gb Gn (r + 1) 0 0 := by
  have hq : ∀ l, ((broadcast S16 w : IVec S16 32) l).toNat = r := fun l => by
    exact hr
  have hin : ∀ v ∈ [v3, v4, v5, v6, v7, v8, v9, v10], ∀ a x, ((![broadcast S16 w, v] : Fin 2 → IVec S16 32) a x).toNat < S64x256.size a := fun v hv =>
    Fin.forall_fin_two.mpr ⟨fun x => (hq x).trans_lt (hr ▸ hw), fun x => hp.lt v hv x⟩
  have hchk : k0_chk1 v3 v4 v5 v6 v7 v8 v9 v10 (broadcast S16 w) :=
    ⟨hin _ (by simp), hin _ (by simp), hin _ (by simp), hin _ (by simp), hin _ (by simp), hin _ (by simp), hin _ (by simp), hin _ (by simp)⟩
  refine BIBase.Entails.trans ?_ (BIBase.Entails.of_eq (wp_assume_of 𝒱₀ (thr d L) none Set.univ hchk).symm)
  show _ ⊢ wp frame _ _ (groups L inM obM onM v3 v4 v5 v6 v7 v8 v9 v10 w hw hchk) _
  unfold groups
  refine wp_then d L (held_b d L inM obM onM (off := rowOff w 0) _ hr rfl hp.b0 hq) fun _ => ?_
  refine wp_then d L (held_b d L inM obM onM (off := rowOff w 16) _ hr rfl hp.b1 hq) fun _ => ?_
  refine wp_then d L (held_n d L inM obM onM (off := rowOff w 0) _ hr rfl hp.n0 hq) fun _ => ?_
  refine wp_then d L (held_n d L inM obM onM (off := rowOff w 16) _ hr rfl hp.n1 hq) fun _ => ?_
  refine wp_then d L (held_n d L inM obM onM (off := rowOff w 32) _ hr rfl hp.n2 hq) fun _ => ?_
  refine wp_then d L (held_n d L inM obM onM (off := rowOff w 48) _ hr rfl hp.n3 hq) fun _ => ?_
  refine wp_then d L (held_n d L inM obM onM (off := rowOff w 64) _ hr rfl hp.n4 hq) fun _ => ?_
  iintro H
  iapply (wp_wand_r frame _ _)
  isplitl [H]
  · iapply (held_n d L inM obM onM (off := rowOff w 80) _ hr rfl hp.n5 hq); iexact H
  unfold Held
  iintro %_ ⟨Hi, ⟨%gb, %hgb, Hb⟩, %gn, %hgn, Hn⟩
  isplitl [Hi]; · iexact Hi
  isplitl [Hb]
  · iexists gb; isplitr; · ipureintro; exact hgb.next
    iexact Hb
  · iexists gn; isplitr; · ipureintro; exact hgn.next
    iexact Hn

theorem wp_trip (hp : Picks (inM.view.read (Elt F) f) Gb Gn v3 v4 v5 v6 v7 v8 v9 v10) (t : Fin k0_t1_loop.trips) (u : Unit) :
    Held d L inM obM onM f Gb Gn (4 * t.val) 0 0
      ⊢ wp frame (wpE (defs₀ (F := F)) 𝒱₀ (thr d L) none) Set.univ (trip L inM obM onM v3 v4 v5 v6 v7 v8 v9 v10 t u)
          fun _ => Held d L inM obM onM f Gb Gn (4 * (t.val + 1)) 0 0 :=
  wp_then d L (wp_row d L inM obM onM hp _ (rowWord_lt t 0)) fun _ =>
  wp_then d L (wp_row d L inM obM onM hp _ (rowWord_lt t 1)) fun _ =>
  wp_then d L (wp_row d L inM obM onM hp _ (rowWord_lt t 2)) fun _ =>
  wp_row d L inM obM onM hp _ (rowWord_lt t 3)

/-- The loop at the head of a program: the window stays, each block ends reading what it should. -/
theorem wp_rows (hp : Picks (inM.view.read (Elt F) f) Gb Gn v3 v4 v5 v6 v7 v8 v9 v10)
    {gb : Buf (Elt F) (obM.view.loc (thr d L))} {gn : Buf (Elt F) (onM.view.loc (thr d L))}
    {β : Type} {kk : Unit → Prog (TileEff F L) β} {Q : β → sProp 𝕄} :
    iprop((inM.view.loc (thr d L) ↦{fullShare} f) ∗ (obM.view.loc (thr d L) ↦{fullShare} gb) ∗ (onM.view.loc (thr d L) ↦{fullShare} gn))
    ⊢ iprop((∀ gb, ∀ gn, iprop(⌜obM.view.read (Elt F) gb = Gb ∧ onM.view.read (Elt F) gn = Gn⌝
          -∗ ((inM.view.loc (thr d L) ↦{fullShare} f) ∗ (obM.view.loc (thr d L) ↦{fullShare} gb) ∗ (onM.view.loc (thr d L) ↦{fullShare} gn))
          -∗ wp frame (wpE (defs₀ (F := F)) 𝒱₀ (thr d L) none) Set.univ (kk ()) Q))
      -∗ wp frame (wpE (defs₀ (F := F)) 𝒱₀ (thr d L) none) Set.univ
        (Scf.Loop.for k0_t1_loop k0_t1_ok () (trip L inM obM onM v3 v4 v5 v6 v7 v8 v9 v10) >>= kk) Q) := by
  iintro ⟨Hi, Hb, Hn⟩ HK
  iapply (Scf.wp_for_bind frame (wpE (defs₀ (F := F)) 𝒱₀ (thr d L) none) Set.univ _ _ _ k0_t1_ok ()
      (trip L inM obM onM v3 v4 v5 v6 v7 v8 v9 v10) (fun t _ => Held d L inM obM onM f Gb Gn (4 * t) 0 0)
      (fun t u => wp_trip d L inM obM onM hp t u)) $$ [Hi Hb Hn]
  · unfold Held
    isplitl [Hi]; · iexact Hi
    isplitl [Hb]
    · iexists gb; isplitr; · ipureintro; intro x hx; omega
      iexact Hb
    · iexists gn; isplitr; · ipureintro; intro x hx; omega
      iexact Hn
  iintro %_ H
  unfold Held
  icases H with ⟨Hi, ⟨%gb', %hgb, Hb⟩, %gn', %hgn, Hn⟩
  have h64 : 4 * Scf.trips k0_t1_loop.lb k0_t1_loop.ub k0_t1_loop.st = 64 := by
    have := trips_eq; unfold Scf.Loop.trips at this; omega
  iapply HK $$ %gb' %gn' [] [Hi Hb Hn]
  swap
  · isplitl [Hi]; · iexact Hi
    isplitl [Hb] <;> iassumption
  ipureintro
  exact ⟨funext fun x => hgb x (.inl (by have : (x 0).val < 64 := (x 0).isLt; omega)),
    funext fun x => hgn x (.inl (by have : (x 0).val < 64 := (x 0).isLt; omega))⟩

end Cert.Proof.Columns

end
-- ==== Proof.Bodies.lean ====
/-
  Each of the kernel's eight row loops runs `trip` (Trip.lean) at its own buffers: by definitional unfolding.
-/
module

public import proofs.«01_k».proof.Proof.Trip

@[expose] public section

noncomputable section

namespace Cert.Proof.Columns

open Cert.KernelIdeal Cert.KernelIdeal.Gen
open Idealize.ShloMosaic Idealize.SL.Sem

variable {F : FTy → Type} [FloatOps F]

variable (i : grid0.Coords)
variable (arg2 : Memref sig .scVector .hbm S16384x4096 .f32) (harg2 : arg2.IsWhole)
variable (arg3 : Memref sig .scVector .hbm S32 .i32) (harg3 : arg3.IsWhole)
variable (arg4 : Memref sig .scVector .hbm S96 .i32) (harg4 : arg4.IsWhole)
variable (arg5 : Memref sig .scVector .hbm S16384x32 .f32) (harg5 : arg5.IsWhole)
variable (arg6 : Memref sig .scVector .hbm S16384x96 .f32) (harg6 : arg6.IsWhole)
variable (arg7 : Memref sig .scVector .vmem S32 .i32) (harg7 : arg7.IsWhole)
variable (arg8 : Memref sig .scVector .vmem S96 .i32) (harg8 : arg8.IsWhole)
variable (arg9 : Memref sig .scVector .vmem S64x256 .f32) (harg9 : arg9.IsWhole)
variable (arg10 : Memref sig .scVector .vmem S64x256 .f32) (harg10 : arg10.IsWhole)
variable (arg11 : Memref sig .scVector .vmem S64x32 .f32) (harg11 : arg11.IsWhole)
variable (arg12 : Memref sig .scVector .vmem S64x32 .f32) (harg12 : arg12.IsWhole)
variable (arg13 : Memref sig .scVector .vmem S64x96 .f32) (harg13 : arg13.IsWhole)
variable (arg14 : Memref sig .scVector .vmem S64x96 .f32) (harg14 : arg14.IsWhole)
variable (arg15 arg16 arg17 arg18 arg19 arg20 v131_r0 v131_r1 : DmaSems sig S_)
variable (v3 v4 v5 v6 v7 v8 v9 v10 : IVec S16 32)

theorem body1_eq :
    k0_t1_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v131_r0 v131_r1 v3 v4 v5 v6 v7 v8 v9 v10
      = trip i arg9 arg11 arg13 v3 v4 v5 v6 v7 v8 v9 v10 := rfl

theorem body2_eq (v2 : BitVec 32) :
    k0_t2_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v131_r0 v131_r1 v2 v3 v4 v5 v6 v7 v8 v9 v10
      = trip i arg10 arg12 arg14 v3 v4 v5 v6 v7 v8 v9 v10 := rfl

theorem body3_eq (v2 : BitVec 32) :
    k0_t3_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v131_r0 v131_r1 v2 v3 v4 v5 v6 v7 v8 v9 v10 0#32
      = trip i arg9 arg11 arg13 v3 v4 v5 v6 v7 v8 v9 v10 := rfl

theorem body4_eq (v2 : BitVec 32) (c0_i32_39 : BitVec 32) :
    k0_t4_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v131_r0 v131_r1 v2 v3 v4 v5 v6 v7 v8 v9 v10 c0_i32_39
      = trip i arg10 arg12 arg14 v3 v4 v5 v6 v7 v8 v9 v10 := rfl

theorem body5_eq (v2 : BitVec 32) :
    k0_t5_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v131_r0 v131_r1 v2 v3 v4 v5 v6 v7 v8 v9 v10
      = trip i arg9 arg11 arg13 v3 v4 v5 v6 v7 v8 v9 v10 := rfl

theorem body6_eq (v2 : BitVec 32) :
    k0_t6_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v131_r0 v131_r1 v2 v3 v4 v5 v6 v7 v8 v9 v10
      = trip i arg10 arg12 arg14 v3 v4 v5 v6 v7 v8 v9 v10 := rfl

theorem body7_eq (v2 : BitVec 32) :
    k0_t7_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v131_r0 v131_r1 v2 v3 v4 v5 v6 v7 v8 v9 v10
      = trip i arg9 arg11 arg13 v3 v4 v5 v6 v7 v8 v9 v10 := rfl

theorem body8_eq :
    k0_t8_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 arg19 arg20 v131_r0 v131_r1 v3 v4 v5 v6 v7 v8 v9 v10
      = trip i arg10 arg12 arg14 v3 v4 v5 v6 v7 v8 v9 v10 := rfl

end Cert.Proof.Columns

end
-- ==== Proof.Task.lean ====
/-
  What a task holds: shares of the array and of the two index lists, its eight blocks of each result, its own
  scratch buffers and semaphore cells; and the values the blocks end at.
-/
module

public import proofs.«01_k».proof.Proof.RowRun
public import proofs.«01_k».proof.Proof.Bodies

@[expose] public section

noncomputable section

namespace Cert.Proof.Columns

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The buffers -/

abbrev xLoc (d : Dev nD) : Loc nD τ sig := (SparseCore.T d).loc main_arg0
abbrev bLoc (d : Dev nD) : Loc nD τ sig := (SparseCore.T d).loc main_arg1
abbrev nLoc (d : Dev nD) : Loc nD τ sig := (SparseCore.T d).loc main_arg2
abbrev oLoc (d : Dev nD) : Loc nD τ sig := (SparseCore.T d).loc main_v0_0
abbrev pLoc (d : Dev nD) : Loc nD τ sig := (SparseCore.T d).loc main_v0_1

abbrev xV : Memref sig .scVector .hbm S16384x4096 .f32 := Memref.whole main_arg0_scv
abbrev bV : Memref sig .scVector .hbm S32 .i32 := Memref.whole main_arg1_scv
abbrev nV : Memref sig .scVector .hbm S96 .i32 := Memref.whole main_arg2_scv
abbrev oV : Memref sig .scVector .hbm S16384x32 .f32 := Memref.whole main_v0_0_scv
abbrev pV : Memref sig .scVector .hbm S16384x96 .f32 := Memref.whole main_v0_1_scv
abbrev bI : Memref sig .scVector .vmem S32 .i32 := Memref.whole cc0_scratch0
abbrev nI : Memref sig .scVector .vmem S96 .i32 := Memref.whole cc0_scratch1
abbrev in0 : Memref sig .scVector .vmem S64x256 .f32 := Memref.whole cc0_scratch2
abbrev in1 : Memref sig .scVector .vmem S64x256 .f32 := Memref.whole cc0_scratch3
abbrev ob0 : Memref sig .scVector .vmem S64x32 .f32 := Memref.whole cc0_scratch4
abbrev ob1 : Memref sig .scVector .vmem S64x32 .f32 := Memref.whole cc0_scratch5
abbrev on0 : Memref sig .scVector .vmem S64x96 .f32 := Memref.whole cc0_scratch6
abbrev on1 : Memref sig .scVector .vmem S64x96 .f32 := Memref.whole cc0_scratch7

/-! ## Eight of a kind -/

omit [FloatOps F] in
theorem bigSep_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]; rfl

omit [FloatOps F] in
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [bigSep_succ, bigSep_succ, bigSep_succ, bigSep_succ, bigSep_succ, bigSep_succ, bigSep_succ, bigSep_univ_of_subsingleton 0]; rfl

omit [FloatOps F] in
/-- The eight members a one-to-one naming picks out of a set, and the rest. -/
theorem bigSep_named {I : Type} [DecidableEq I] {s : Finset I} {f : Fin 8 → I} (hf : Function.Injective f) (hs : ∀ k, f k ∈ s) {Φ : I → sProp 𝕄} :
    bigSep s Φ = iprop(bigSep Finset.univ (fun k => Φ (f k)) ∗ bigSep (s \ Finset.univ.image f) Φ) := by
  rw [bigSep_sdiff_split (t := Finset.univ.image f) (fun x hx => by obtain ⟨k, -, rfl⟩ := Finset.mem_image.mp hx; exact hs k),
    bigSep_image_of_injOn hf.injOn]
  rfl

section Tile
variable (d : Dev nD) (L : grid0.Coords)

/-- The tile's eight transfer semaphores: the two windows', the two first blocks', the two second blocks', the two
    index lists'. -/
abbrev sems : Fin 8 → DmaSem sig :=
  ![cc0_scratch8.sem, cc0_scratch9.sem, cc0_scratch10.sem, cc0_scratch11.sem, cc0_scratch12.sem, cc0_scratch13.sem, cc0_scoped0.sem, cc0_scoped1.sem]
abbrev cell (k : Fin 8) : GSem nD τ sig := (thr d L, .dma (sems k))

omit [FloatOps F] in
theorem sems_split :
    (ownSems0 (thr d L) : sProp 𝕄)
      = iprop((semVal (cell d L 0) 0 ∗ semVal (cell d L 1) 0 ∗ semVal (cell d L 2) 0 ∗ semVal (cell d L 3) 0 ∗ semVal (cell d L 4) 0
          ∗ semVal (cell d L 5) 0 ∗ semVal (cell d L 6) 0 ∗ semVal (cell d L 7) 0)
        ∗ bigSep (ownCells (thr d L) \ Finset.univ.image (cell d L)) fun g => semVal g 0) := by
  unfold SparseCore.Cfg.ownSems0
  rw [bigSep_named (f := cell d L)
    (fun a b e => (show Function.Injective sems by decide) (SemLoc.dma.inj (congrArg Prod.snd e)))
    (fun k => mem_ownCells.mpr ⟨rfl, (show ∀ k, (SemLoc.dma (sems k) : SemLoc sig).isScoped .scVector = true by decide) k⟩), bigSep_eight]

/-- The tile's eight scratch buffers. -/
abbrev scratch : Fin 8 → Ref sig .scVector :=
  ![cc0_scratch0, cc0_scratch1, cc0_scratch2, cc0_scratch3, cc0_scratch4, cc0_scratch5, cc0_scratch6, cc0_scratch7]

omit [FloatOps F] in
theorem bufs_split :
    (ownBufs (thr d L) : sProp 𝕄)
      = iprop(((∃ f, bI.view.loc (thr d L) ↦{fullShare} f) ∗ (∃ f, nI.view.loc (thr d L) ↦{fullShare} f)
          ∗ (∃ f, in0.view.loc (thr d L) ↦{fullShare} f) ∗ (∃ f, in1.view.loc (thr d L) ↦{fullShare} f)
          ∗ (∃ f, ob0.view.loc (thr d L) ↦{fullShare} f) ∗ (∃ f, ob1.view.loc (thr d L) ↦{fullShare} f)
          ∗ (∃ f, on0.view.loc (thr d L) ↦{fullShare} f) ∗ (∃ f, on1.view.loc (thr d L) ↦{fullShare} f))
        ∗ bigSep (ownRefs (τ := τ) (.scVector (cV L) (jV L)) \ Finset.univ.image fun k => (Proc.scVector (cV L) (jV L)).devRef (scratch k))
            fun b => iprop(∃ f, ((d, b) : Loc nD τ sig) ↦{fullShare} f)) := by
  unfold SparseCore.Cfg.ownBufs
  rw [bigSep_named (f := fun k => (Proc.scVector (cV L) (jV L)).devRef (scratch k))
    (fun a b e => (show Function.Injective scratch by decide) (Proc.devRef_injective _ e))
    (fun k => SparseCore.Cfg.mem_ownRefs_of_owner
      ((show ∀ k, ((Proc.scVector (cV L) (jV L)).devRef (scratch k)).owner = .proc (.scVector (cV L) (jV L)) from
        fun k => by fin_cases k <;> rfl) k)), bigSep_eight]
  rfl

/-! ## The blocks -/

/-- A 64-row block of the array's first 256 columns, and of each result, at the row the kernel computes for the offset `c`. -/
abbrev win (c : BitVec 32) (h : ∀ a, k0_off1 L c a + S64x256.size a ≤ S16384x4096.size a) : Memref sig .scVector .hbm S64x256 .f32 :=
  xV.slice (Rect.unit (s := S16384x4096) (k0_off1 L c) S64x256.size h) (fun _ => rfl)
abbrev obl (c : BitVec 32) (h : ∀ a, k0_off34 L c a + S64x32.size a ≤ S16384x32.size a) : Memref sig .scVector .hbm S64x32 .f32 :=
  oV.slice (Rect.unit (s := S16384x32) (k0_off34 L c) S64x32.size h) (fun _ => rfl)
abbrev pbl (c : BitVec 32) (h : ∀ a, k0_off35 L c a + S64x96.size a ≤ S16384x96.size a) : Memref sig .scVector .hbm S64x96 .f32 :=
  pV.slice (Rect.unit (s := S16384x96) (k0_off35 L c) S64x96.size h) (fun _ => rfl)

theorem win_inb (k : Fin 8) : ∀ a, k0_off1 L (BitVec.ofNat 32 (64 * k.val)) a + S64x256.size a ≤ S16384x4096.size a := by
  have e : k0_off1 L (BitVec.ofNat 32 (64 * k.val)) = k0_off34 L (BitVec.ofNat 32 (64 * k.val)) := rfl
  have h := k0_off34_inb L k
  rw [e]
  refine Fin.forall_fin_two.mpr ⟨h 0, ?_⟩
  rw [k0_off34_eq]; show 0 + 256 ≤ 4096; omega

abbrev winPts (q : PosShare TreeShare) (c : BitVec 32) (h : ∀ a, k0_off1 L c a + S64x256.size a ≤ S16384x4096.size a) (f : Buf (Elt F) (xLoc d)) : sProp 𝕄 :=
  (win L c h).view.loc (thr d L) ↦[(win L c h).view.set]{q} f
abbrev oblPts (c : BitVec 32) (h : ∀ a, k0_off34 L c a + S64x32.size a ≤ S16384x32.size a) (f : Buf (Elt F) (oLoc d)) : sProp 𝕄 :=
  (obl L c h).view.loc (thr d L) ↦[(obl L c h).view.set]{fullShare} f
abbrev pblPts (c : BitVec 32) (h : ∀ a, k0_off35 L c a + S64x96.size a ≤ S16384x96.size a) (f : Buf (Elt F) (pLoc d)) : sProp 𝕄 :=
  (pbl L c h).view.loc (thr d L) ↦[(pbl L c h).view.set]{fullShare} f

/-- A task's share of the array is a smaller share of each of its eight windows, and the rest. -/
def winRest (q : PosShare TreeShare) (f : Buf (Elt F) (xLoc d)) : sProp 𝕄 :=
  iprop((xLoc d ↦{Transfers.shareDrop q 8} f) ∗ bigSep Finset.univ fun k : Fin 8 =>
    xLoc d ↦[Finset.univ \ (win L _ (win_inb L k)).view.set]{Transfers.shareTok q 8 k} f)

theorem win_split (q : PosShare TreeShare) (f : Buf (Elt F) (xLoc d)) :
    (xLoc d ↦{q} f : sProp 𝕄) = iprop((
      winPts d L (Transfers.shareTok q 8 0) 0#32 (win_inb L 0) f ∗ winPts d L (Transfers.shareTok q 8 1) 64#32 (win_inb L 1) f ∗ winPts d L (Transfers.shareTok q 8 2) 128#32 (win_inb L 2) f ∗ winPts d L (Transfers.shareTok q 8 3) 192#32 (win_inb L 3) f ∗ winPts d L (Transfers.shareTok q 8 4) 256#32 (win_inb L 4) f ∗ winPts d L (Transfers.shareTok q 8 5) 320#32 (win_inb L 5) f ∗ winPts d L (Transfers.shareTok q 8 6) 384#32 (win_inb L 6) f ∗ winPts d L (Transfers.shareTok q 8 7) 448#32 (win_inb L 7) f)
      ∗ winRest d L q f) := by
  have e : (xLoc d ↦{q} f : sProp 𝕄) = iprop((bigSep Finset.univ fun k : Fin 8 => winPts d L (Transfers.shareTok q 8 k) _ (win_inb L k) f) ∗ winRest d L q f) := by
    unfold winRest
    rw [BI.Entails.antisymm (Transfers.pointsTo_toks q 8).1 (Transfers.pointsTo_toks q 8).2,
      bigSep_congr (fun k _ => (BI.Entails.antisymm (pointsTo_split_subset (Finset.subset_univ (win L _ (win_inb L k)).view.set)).1
        (pointsTo_split_subset (Finset.subset_univ (win L _ (win_inb L k)).view.set)).2)), bigSep_sep']
    exact BI.Entails.antisymm
      (show (_ : sProp 𝕄) ⊢ _ by
          iintro ⟨Hd, Hw, Hr⟩; isplitl [Hw]; · iexact Hw
          isplitl [Hd] <;> iassumption)
      (show (_ : sProp 𝕄) ⊢ _ by
          iintro ⟨Hw, Hd, Hr⟩; isplitl [Hd]; · iexact Hd
          isplitl [Hw] <;> iassumption)
  rw [e, bigSep_eight]; rfl

theorem obl_split (f : Buf (Elt F) (oLoc d)) :
    (bigSep Finset.univ fun k : Fin 8 => oblPts d L _ (k0_off34_inb L k) f) = iprop(
      oblPts d L 0#32 (k0_off34_inb L 0) f ∗ oblPts d L 64#32 (k0_off34_inb L 1) f ∗ oblPts d L 128#32 (k0_off34_inb L 2) f ∗ oblPts d L 192#32 (k0_off34_inb L 3) f ∗ oblPts d L 256#32 (k0_off34_inb L 4) f ∗ oblPts d L 320#32 (k0_off34_inb L 5) f ∗ oblPts d L 384#32 (k0_off34_inb L 6) f ∗ oblPts d L 448#32 (k0_off34_inb L 7) f) := bigSep_eight _
theorem pbl_split (f : Buf (Elt F) (pLoc d)) :
    (bigSep Finset.univ fun k : Fin 8 => pblPts d L _ (k0_off35_inb L k) f) = iprop(
      pblPts d L 0#32 (k0_off35_inb L 0) f ∗ pblPts d L 64#32 (k0_off35_inb L 1) f ∗ pblPts d L 128#32 (k0_off35_inb L 2) f ∗ pblPts d L 192#32 (k0_off35_inb L 3) f ∗ pblPts d L 256#32 (k0_off35_inb L 4) f ∗ pblPts d L 320#32 (k0_off35_inb L 5) f ∗ pblPts d L 384#32 (k0_off35_inb L 6) f ∗ pblPts d L 448#32 (k0_off35_inb L 7) f) := bigSep_eight _

end Tile

end Cert.Proof.Columns

end
-- ==== Proof.Cols.lean ====
/-
  What the results hold, the array's named columns, and that the lanes read from the two lists pick exactly those
  columns out of a staged window.
-/
module

public import proofs.«01_k».proof.Proof.Task
public import Idealize.ShloMosaic.Lib.ViewIndex

@[expose] public section

noncomputable section

namespace Cert.Proof.Columns

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ)

/-- A place of the array: row `r`, column `n` (wrapped, so that it is one). -/
def place (r : Fin 16384) (n : ℕ) : S16384x4096.Idx := fun
  | 0 => r
  | 1 => ⟨n % 4096, Nat.mod_lt _ (by decide)⟩
def one32 (c : Fin 32) : S32.Idx := fun | 0 => c
def one96 (c : Fin 96) : S96.Idx := fun | 0 => c

/-- The two results: each row of the array at the columns the list names. -/
def colsB (d : Dev nD) : Buf (Elt F) (oLoc d) := fun (x : S16384x32.Idx) => m (xLoc d) (place (x 0) (m (bLoc d) (one32 (x 1))).toNat)
def colsN (d : Dev nD) : Buf (Elt F) (pLoc d) := fun (x : S16384x96.Idx) => m (xLoc d) (place (x 0) (m (nLoc d) (one96 (x 1))).toNat)

/-- What the proof asks of the launch memory: both lists name columns below 256. -/
def InWindow : Prop := (∀ (d : Dev nD) (j : S32.Idx), (m (bLoc d) j).toNat < 256) ∧ ∀ (d : Dev nD) (j : S96.Idx), (m (nLoc d) j).toNat < 256

variable (d : Dev nD) (L : grid0.Coords)

/-- The lanes of one list from place `c0` on, `v` being its piece there, name a block's columns. -/
theorem names_b {c : BitVec 32} (hx : ∀ a, k0_off1 L c a + S64x256.size a ≤ S16384x4096.size a)
    (ho : ∀ a, k0_off34 L c a + S64x32.size a ≤ S16384x32.size a) {v : IVec S16 32} {c0 : ℕ}
    (hv : ∀ (l : S16.Idx) (j : S32.Idx), (j 0).val = c0 + (l 0).val → v l = m (bLoc d) j) (hin : InWindow m) :
    Names ((win L c hx).view.read (Elt F) (m (xLoc d))) ((obl L c ho).view.read (Elt F) (colsB m d)) c0 v := by
  intro x l hl y h0 h1
  rw [View.read_apply, View.read_apply]
  have hj : ((obl L c ho).view.emb x 1).val = (x 1).val := by
    show 0 + 1 * (x 1).val = _
    omega
  have e : v l = m (bLoc d) (one32 ((obl L c ho).view.emb x 1)) := hv l _ (by
    show ((obl L c ho).view.emb x 1).val = _
    omega)
  have lt := hin.1 d (one32 ((obl L c ho).view.emb x 1))
  refine congrArg (m (xLoc d)) (funext fun a => Fin.ext ?_)
  match a with
  | 0 =>
    show k0_off1 L c 0 + 1 * (y 0).val = k0_off1 L c 0 + 1 * (x 0).val
    omega
  | 1 =>
    show 0 + 1 * (y 1).val = (m (bLoc d) (one32 ((obl L c ho).view.emb x 1))).toNat % 4096
    rw [h1, e]
    omega

theorem names_n {c : BitVec 32} (hx : ∀ a, k0_off1 L c a + S64x256.size a ≤ S16384x4096.size a)
    (ho : ∀ a, k0_off35 L c a + S64x96.size a ≤ S16384x96.size a) {v : IVec S16 32} {c0 : ℕ}
    (hv : ∀ (l : S16.Idx) (j : S96.Idx), (j 0).val = c0 + (l 0).val → v l = m (nLoc d) j) (hin : InWindow m) :
    Names ((win L c hx).view.read (Elt F) (m (xLoc d))) ((pbl L c ho).view.read (Elt F) (colsN m d)) c0 v := by
  intro x l hl y h0 h1
  rw [View.read_apply, View.read_apply]
  have hj : ((pbl L c ho).view.emb x 1).val = (x 1).val := by
    show 0 + 1 * (x 1).val = _
    omega
  have e : v l = m (nLoc d) (one96 ((pbl L c ho).view.emb x 1)) := hv l _ (by
    show ((pbl L c ho).view.emb x 1).val = _
    omega)
  have lt := hin.2 d (one96 ((pbl L c ho).view.emb x 1))
  refine congrArg (m (xLoc d)) (funext fun a => Fin.ext ?_)
  match a with
  | 0 =>
    show k0_off1 L c 0 + 1 * (y 0).val = k0_off1 L c 0 + 1 * (x 0).val
    omega
  | 1 =>
    show 0 + 1 * (y 1).val = (m (nLoc d) (one96 ((pbl L c ho).view.emb x 1))).toNat % 4096
    rw [h1, e]
    omega

/-- The first list's lanes at place `c0`, read back from the scratch the list was copied to. -/
abbrev bLanes (fb : Buf (Elt F) (bI.view.loc (thr d L))) (c0 : ℕ) (h : ∀ a, (![c0] : Fin 1 → ℕ) a + S16.size a ≤ S32.size a) : IVec S16 32 :=
  View.readAt (Elt F) bI.view (Rect.unit (s := S32) ![c0] S16.size h).toLoadRect (View.write (Elt F) bI.view fb (bV.view.read (Elt F) (m (bLoc d))) Finset.univ)
abbrev nLanes (fn : Buf (Elt F) (nI.view.loc (thr d L))) (c0 : ℕ) (h : ∀ a, (![c0] : Fin 1 → ℕ) a + S16.size a ≤ S96.size a) : IVec S16 32 :=
  View.readAt (Elt F) nI.view (Rect.unit (s := S96) ![c0] S16.size h).toLoadRect (View.write (Elt F) nI.view fn (nV.view.read (Elt F) (m (nLoc d))) Finset.univ)

theorem bLanes_at (fb : Buf (Elt F) (bI.view.loc (thr d L))) (c0 : ℕ) (h) (l : S16.Idx) (j : S32.Idx) (e : (j 0).val = c0 + (l 0).val) :
    bLanes m d L fb c0 h l = m (bLoc d) j := by
  unfold bLanes
  rw [View.readAt_apply, View.read_write_univ]
  refine congrArg (m (bLoc d)) (funext fun a => Fin.ext ?_)
  match a with
  | 0 =>
    show c0 + 1 * (l 0).val = (j 0).val
    omega

theorem nLanes_at (fn : Buf (Elt F) (nI.view.loc (thr d L))) (c0 : ℕ) (h) (l : S16.Idx) (j : S96.Idx) (e : (j 0).val = c0 + (l 0).val) :
    nLanes m d L fn c0 h l = m (nLoc d) j := by
  unfold nLanes
  rw [View.readAt_apply, View.read_write_univ]
  refine congrArg (m (nLoc d)) (funext fun a => Fin.ext ?_)
  match a with
  | 0 =>
    show c0 + 1 * (l 0).val = (j 0).val
    omega

/-- At every block: the eight lane vectors pick the block's columns out of the window staged for it. -/
theorem picks (hin : InWindow m) (fb : Buf (Elt F) (bI.view.loc (thr d L))) (fn : Buf (Elt F) (nI.view.loc (thr d L)))
    {inM : Memref sig .scVector .vmem S64x256 .f32} (fi : inM.view.ty.Contents (Elt F))
    (c : BitVec 32) (hx : ∀ a, k0_off1 L c a + S64x256.size a ≤ S16384x4096.size a)
    (ho : ∀ a, k0_off34 L c a + S64x32.size a ≤ S16384x32.size a) (hp : ∀ a, k0_off35 L c a + S64x96.size a ≤ S16384x96.size a) :
    Picks (inM.view.read (Elt F) (View.write (Elt F) inM.view fi ((win L c hx).view.read (Elt F) (m (xLoc d))) Finset.univ))
      ((obl L c ho).view.read (Elt F) (colsB m d)) ((pbl L c hp).view.read (Elt F) (colsN m d))
      (bLanes m d L fb 0 inb_S32_S16_0) (bLanes m d L fb 16 inb_S32_S16_16)
      (nLanes m d L fn 0 inb_S96_S16_0) (nLanes m d L fn 16 inb_S96_S16_16) (nLanes m d L fn 32 inb_S96_S16_32)
      (nLanes m d L fn 48 inb_S96_S16_48) (nLanes m d L fn 64 inb_S96_S16_64) (nLanes m d L fn 80 inb_S96_S16_80) := by
  have hb : ∀ c0 h l, (bLanes m d L fb c0 h l).toNat < 256 := fun c0 h l => by
    have := h 0
    have hl : (l 0).val < 16 := (l 0).isLt
    rw [bLanes_at m d L fb c0 h l (one32 ⟨c0 + (l 0).val, by simp at this; omega⟩) rfl]
    exact hin.1 _ _
  have hn : ∀ c0 h l, (nLanes m d L fn c0 h l).toNat < 256 := fun c0 h l => by
    have := h 0
    have hl : (l 0).val < 16 := (l 0).isLt
    rw [nLanes_at m d L fn c0 h l (one96 ⟨c0 + (l 0).val, by simp at this; omega⟩) rfl]
    exact hin.2 _ _
  rw [View.read_write_univ]
  exact {
    lt := by
      simp only [List.forall_mem_cons, List.not_mem_nil, false_imp_iff, implies_true, and_true]
      exact ⟨hb _ _, hb _ _, hn _ _, hn _ _, hn _ _, hn _ _, hn _ _, hn _ _⟩
    b0 := names_b m d L hx ho (bLanes_at m d L fb _ _) hin
    b1 := names_b m d L hx ho (bLanes_at m d L fb _ _) hin
    n0 := names_n m d L hx hp (nLanes_at m d L fn _ _) hin
    n1 := names_n m d L hx hp (nLanes_at m d L fn _ _) hin
    n2 := names_n m d L hx hp (nLanes_at m d L fn _ _) hin
    n3 := names_n m d L hx hp (nLanes_at m d L fn _ _) hin
    n4 := names_n m d L hx hp (nLanes_at m d L fn _ _) hin
    n5 := names_n m d L hx hp (nLanes_at m d L fn _ _) hin }

/-- What a write of the whole of a view leaves it reading. -/
theorem read_writes_whole {κ : Kind} {sp : Space} {s : Shape} (v : View sig κ sp s .f32) (f : v.ty.Contents (Elt F)) (w : s.Idx → Elt F .f32) :
    v.read (Elt F) (v.writes (Elt F) f [⟨Rect.whole s, w⟩]) = w := by
  funext x
  have e : (Rect.whole s).emb x = x := funext fun a => Fin.ext (by
    show (Rect.whole s).off a + (Rect.whole s).stride a * (x a).val = (x a).val
    simp [Rect.whole])
  have h := View.read_slice_write_emb (v := v) (Val := Elt F) (r := Rect.whole s) f w (Finset.mem_univ x)
  rw [e] at h
  exact h

/-- A block written out holds the columns. -/
theorem obl_written {c : BitVec 32} (ho : ∀ a, k0_off34 L c a + S64x32.size a ≤ S16384x32.size a) (f : Buf (Elt F) (oLoc d)) {w : S64x32.Idx → Elt F .f32}
    (hw : w = (obl L c ho).view.read (Elt F) (colsB m d)) :
    oblPts d L c ho ((obl L c ho).view.writes (Elt F) f [⟨Rect.whole S64x32, w⟩]) ⊢ (oblPts d L c ho (colsB m d) : sProp 𝕄) :=
  BIBase.Entails.of_eq (pointsTo_congr fun i hi => by
    obtain ⟨x, -, rfl⟩ := Finset.mem_map.mp hi
    exact View.eq_of_read_eq (congrFun ((read_writes_whole _ _ _).trans hw) x))

theorem pbl_written {c : BitVec 32} (hp : ∀ a, k0_off35 L c a + S64x96.size a ≤ S16384x96.size a) (f : Buf (Elt F) (pLoc d)) {w : S64x96.Idx → Elt F .f32}
    (hw : w = (pbl L c hp).view.read (Elt F) (colsN m d)) :
    pblPts d L c hp ((pbl L c hp).view.writes (Elt F) f [⟨Rect.whole S64x96, w⟩]) ⊢ (pblPts d L c hp (colsN m d) : sProp 𝕄) :=
  BIBase.Entails.of_eq (pointsTo_congr fun i hi => by
    obtain ⟨x, -, rfl⟩ := Finset.mem_map.mp hi
    exact View.eq_of_read_eq (congrFun ((read_writes_whole _ _ _).trans hw) x))

end Cert.Proof.Columns

end
-- ==== Proof.Split.lean ====
/-
  The call's operands among its thirty-two tasks: a share each of the array and of the two lists, and each task's own
  eight blocks of either result, which together are the whole of it.
-/
module

public import proofs.«01_k».proof.Proof.Cols

@[expose] public section

noncomputable section

namespace Cert.Proof.Columns

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (d : Dev nD)

/-- The task of core `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- Its share of what every task reads. -/
abbrev part (c : Fin 2) (i : Fin 16) : PosShare TreeShare := Transfers.shareTok (Transfers.shareTok fullShare 2 c) 16 i

/-- What stays behind when the tasks' shares are dealt. -/
def kept {ℓ : Loc nD τ sig} (f : Buf (Elt F) ℓ) : sProp 𝕄 :=
  iprop((ℓ ↦{Transfers.shareDrop fullShare 2} f) ∗ bigSep Finset.univ fun c : Fin 2 => ℓ ↦{Transfers.shareDrop (Transfers.shareTok fullShare 2 c) 16} f)

theorem dealt {ℓ : Loc nD τ sig} (f : Buf (Elt F) ℓ) :
    (ℓ ↦{fullShare} f : sProp 𝕄)
      = iprop(kept f ∗ bigSep Finset.univ fun c : Fin 2 => bigSep Finset.univ fun i : Fin 16 => ℓ ↦{part c i} f) := by
  have h (q : PosShare TreeShare) (n : ℕ) : (ℓ ↦{q} f : sProp 𝕄) = iprop((ℓ ↦{Transfers.shareDrop q n} f) ∗ bigSep Finset.univ fun i : Fin n => ℓ ↦{Transfers.shareTok q n i} f) :=
    BI.Entails.antisymm (Transfers.pointsTo_toks q n).1 (Transfers.pointsTo_toks q n).2
  rw [h fullShare 2, bigSep_congr (fun (c : Fin 2) _ => h (Transfers.shareTok fullShare 2 c) 16), bigSep_sep']
  refine BI.Entails.antisymm ?_ ?_
  · show (_ : sProp 𝕄) ⊢ _
    unfold kept
    iintro ⟨Ha, Hb, Hc⟩
    isplitr [Hc]; swap; · iexact Hc
    isplitl [Ha] <;> iassumption
  · show (_ : sProp 𝕄) ⊢ _
    unfold kept
    iintro ⟨⟨Ha, Hb⟩, Hc⟩
    isplitl [Ha]; · iexact Ha
    isplitl [Hb] <;> iassumption

/-- The rows of one of a result's 512 blocks. -/
def rowsAt (t : Fin 2 × Fin 16 × Fin 8) : ℕ := 1024 * t.2.1.val + 512 * t.1.val + 64 * t.2.2.val

theorem rowsAt_apart {t t' : Fin 2 × Fin 16 × Fin 8} (h : t ≠ t') : rowsAt t + 64 ≤ rowsAt t' ∨ rowsAt t' + 64 ≤ rowsAt t := by
  obtain ⟨c, i, k⟩ := t
  obtain ⟨c', i', k'⟩ := t'
  by_contra hn
  apply h
  simp only [rowsAt, not_or, not_le] at hn
  have := c.isLt; have := c'.isLt; have := k.isLt; have := k'.isLt
  rw [Prod.mk.injEq, Prod.mk.injEq, Fin.ext_iff, Fin.ext_iff, Fin.ext_iff]
  omega

/-- The block a row lies in. -/
theorem rowsAt_of {r : ℕ} (hr : r < 16384) : ∃ t, rowsAt t ≤ r ∧ r < rowsAt t + 64 :=
  ⟨(⟨r / 512 % 2, by omega⟩, ⟨r / 1024, by omega⟩, ⟨r / 64 % 8, by omega⟩), by simp only [rowsAt]; omega, by simp only [rowsAt]; omega⟩

abbrev oSet (t : Fin 2 × Fin 16 × Fin 8) : Finset S16384x32.Idx := (obl (coordsV t.1 t.2.1) _ (k0_off34_inb _ t.2.2)).view.set
abbrev pSet (t : Fin 2 × Fin 16 × Fin 8) : Finset S16384x96.Idx := (pbl (coordsV t.1 t.2.1) _ (k0_off35_inb _ t.2.2)).view.set

theorem mem_oSet (t : Fin 2 × Fin 16 × Fin 8) (x : S16384x32.Idx) : x ∈ oSet t ↔ rowsAt t ≤ (x 0).val ∧ (x 0).val < rowsAt t + 64 := by
  have e : oSet t = (Rect.unit (s := S16384x32) (k0_off34 (coordsV t.1 t.2.1) (BitVec.ofNat 32 (64 * t.2.2.val))) S64x32.size (k0_off34_inb _ t.2.2)).set :=
    (View.set_slice _ _).trans Finset.map_refl
  have h1 : (x 1).val < 32 := (x 1).isLt
  rw [e, Rect.mem_set_unit, Fin.forall_fin_two, k0_off34_eq]
  show (1024 * t.2.1.val + 512 * t.1.val + 64 * t.2.2.val ≤ (x 0).val ∧ (x 0).val < 1024 * t.2.1.val + 512 * t.1.val + 64 * t.2.2.val + 64) ∧ (0 ≤ (x 1).val ∧ (x 1).val < 0 + 32) ↔ _
  simp only [rowsAt]
  omega

theorem mem_pSet (t : Fin 2 × Fin 16 × Fin 8) (x : S16384x96.Idx) : x ∈ pSet t ↔ rowsAt t ≤ (x 0).val ∧ (x 0).val < rowsAt t + 64 := by
  have e : pSet t = (Rect.unit (s := S16384x96) (k0_off35 (coordsV t.1 t.2.1) (BitVec.ofNat 32 (64 * t.2.2.val))) S64x96.size (k0_off35_inb _ t.2.2)).set :=
    (View.set_slice _ _).trans Finset.map_refl
  have h1 : (x 1).val < 96 := (x 1).isLt
  rw [e, Rect.mem_set_unit, Fin.forall_fin_two, k0_off35_eq]
  show (1024 * t.2.1.val + 512 * t.1.val + 64 * t.2.2.val ≤ (x 0).val ∧ (x 0).val < 1024 * t.2.1.val + 512 * t.1.val + 64 * t.2.2.val + 64) ∧ (0 ≤ (x 1).val ∧ (x 1).val < 0 + 96) ↔ _
  simp only [rowsAt]
  omega

abbrev oAll (L : grid0.Coords) (f : Buf (Elt F) (oLoc d)) : sProp 𝕄 := bigSep Finset.univ fun k : Fin 8 => oblPts d L _ (k0_off34_inb L k) f
abbrev pAll (L : grid0.Coords) (f : Buf (Elt F) (pLoc d)) : sProp 𝕄 := bigSep Finset.univ fun k : Fin 8 => pblPts d L _ (k0_off35_inb L k) f

theorem oSet_cover : (Finset.univ : Finset (Fin 2 × Fin 16 × Fin 8)).biUnion oSet = Finset.univ :=
  Finset.eq_univ_iff_forall.mpr fun x => by
    obtain ⟨t, ht⟩ := rowsAt_of (r := (x 0).val) (x 0).isLt
    exact Finset.mem_biUnion.mpr ⟨t, Finset.mem_univ t, (mem_oSet t x).mpr ht⟩

theorem o_blocks (f : Buf (Elt F) (oLoc d)) :
    (oLoc d ↦{fullShare} f : sProp 𝕄) = bigSep Finset.univ fun c : Fin 2 => bigSep Finset.univ fun i : Fin 16 => oAll d (coordsV c i) f := by
  have e : (oLoc d ↦{fullShare} f : sProp 𝕄) = bigSep Finset.univ fun t : Fin 2 × Fin 16 × Fin 8 => oLoc d ↦[oSet t]{fullShare} f := by
    rw [← pointsTo_biUnion Finset.univ (ℓ := oLoc d) oSet fun t _ t' _ h => Finset.disjoint_left.mpr fun x hx hx' => by
      have := rowsAt_apart h
      rw [mem_oSet] at hx hx'
      omega, oSet_cover]
  rw [e, bigSep_univ_prod]
  exact bigSep_congr fun c _ => bigSep_univ_prod _

theorem pSet_cover : (Finset.univ : Finset (Fin 2 × Fin 16 × Fin 8)).biUnion pSet = Finset.univ :=
  Finset.eq_univ_iff_forall.mpr fun x => by
    obtain ⟨t, ht⟩ := rowsAt_of (r := (x 0).val) (x 0).isLt
    exact Finset.mem_biUnion.mpr ⟨t, Finset.mem_univ t, (mem_pSet t x).mpr ht⟩

theorem p_blocks (f : Buf (Elt F) (pLoc d)) :
    (pLoc d ↦{fullShare} f : sProp 𝕄) = bigSep Finset.univ fun c : Fin 2 => bigSep Finset.univ fun i : Fin 16 => pAll d (coordsV c i) f := by
  have e : (pLoc d ↦{fullShare} f : sProp 𝕄) = bigSep Finset.univ fun t : Fin 2 × Fin 16 × Fin 8 => pLoc d ↦[pSet t]{fullShare} f := by
    rw [← pointsTo_biUnion Finset.univ (ℓ := pLoc d) pSet fun t _ t' _ h => Finset.disjoint_left.mpr fun x hx hx' => by
      have := rowsAt_apart h
      rw [mem_pSet] at hx hx'
      omega, pSet_cover]
  rw [e, bigSep_univ_prod]
  exact bigSep_congr fun c _ => bigSep_univ_prod _

/-- What a task is handed, and, with the results at `f` and `g`, what it hands back. -/
def task (c : Fin 2) (i : Fin 16) (f : Buf (Elt F) (oLoc d)) (g : Buf (Elt F) (pLoc d)) : sProp 𝕄 :=
  iprop((xLoc d ↦{part c i} m (xLoc d)) ∗ (bLoc d ↦{part c i} m (bLoc d)) ∗ (nLoc d ↦{part c i} m (nLoc d))
    ∗ oAll d (coordsV c i) f ∗ pAll d (coordsV c i) g)

/-- The five arrays are the tasks' parts and what stays behind. -/
theorem arrays_split (f : Buf (Elt F) (oLoc d)) (g : Buf (Elt F) (pLoc d)) :
    (iprop((xLoc d ↦{fullShare} m (xLoc d)) ∗ (bLoc d ↦{fullShare} m (bLoc d)) ∗ (nLoc d ↦{fullShare} m (nLoc d))
        ∗ (oLoc d ↦{fullShare} f) ∗ (pLoc d ↦{fullShare} g)) : sProp 𝕄)
      = iprop((kept (m (xLoc d)) ∗ kept (m (bLoc d)) ∗ kept (m (nLoc d)))
          ∗ bigSep Finset.univ fun c : Fin 2 => bigSep Finset.univ fun i : Fin 16 => task m d c i f g) := by
  unfold task
  rw [dealt (m (xLoc d)), dealt (m (bLoc d)), dealt (m (nLoc d)), o_blocks, p_blocks]
  simp only [bigSep_sep']
  refine BI.Entails.antisymm ?_ ?_
  · show (_ : sProp 𝕄) ⊢ _
    iintro ⟨⟨Hx, Hx'⟩, ⟨Hb, Hb'⟩, ⟨Hn, Hn'⟩, Ho, Hp⟩
    isplitl [Hx Hb Hn]
    · isplitl [Hx]; · iexact Hx
      isplitl [Hb] <;> iassumption
    isplitl [Hx']; · iexact Hx'
    isplitl [Hb']; · iexact Hb'
    isplitl [Hn']; · iexact Hn'
    isplitl [Ho] <;> iassumption
  · show (_ : sProp 𝕄) ⊢ _
    iintro ⟨⟨Hx, Hb, Hn⟩, Hx', Hb', Hn', Ho, Hp⟩
    isplitl [Hx Hx']; · isplitl [Hx] <;> iassumption
    isplitl [Hb Hb']; · isplitl [Hb] <;> iassumption
    isplitl [Hn Hn']; · isplitl [Hn] <;> iassumption
    isplitl [Ho] <;> iassumption

end Cert.Proof.Columns

end
-- ==== Proof.Tile.lean ====
/-
  One task's run: the two index lists fetched and read, the eight windows staged two at a time, each row loop, each
  block's write-out; the sixteen blocks end at the array's named columns.
-/
module

public import proofs.«01_k».proof.Proof.Split

@[expose] public section

noncomputable section

namespace Cert.Proof.Columns

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ)

variable (d : Dev nD) (L : grid0.Coords)

set_option maxHeartbeats 4000000 in
theorem tile_body (hF : (K (F := F)).Facts) (hin : InWindow m) (qx qb qn : PosShare TreeShare)
    (O : CellTallies nD τ sig (HIx 1)) (W : Waits sig (HIx 1)) (hO : ∀ g, O g none = 0) :
    iprop(levAts (K (F := F)).L (K (F := F)).lev ∗ emp
        ∗ ((xLoc d ↦{qx} m (xLoc d)) ∗ (bLoc d ↦{qb} m (bLoc d)) ∗ (nLoc d ↦{qn} m (nLoc d)) ∗ oAll d L (m (oLoc d)) ∗ pAll d L (m (pLoc d)))
        ∗ scopedBufs (thr d L) ∗ scopedSems0 (thr d L) ∗ owes (thr d L) O W)
      ⊢ wp frame (wpE (defs₀ (F := F)) 𝒱₀ (thr d L) none) Set.univ
          (cc0_sc_split L xV (Memref.isWhole_whole _) bV (Memref.isWhole_whole _) nV (Memref.isWhole_whole _) oV (Memref.isWhole_whole _)
            pV (Memref.isWhole_whole _) bI (Memref.isWhole_whole _) nI (Memref.isWhole_whole _) in0 (Memref.isWhole_whole _)
            in1 (Memref.isWhole_whole _) ob0 (Memref.isWhole_whole _) ob1 (Memref.isWhole_whole _) on0 (Memref.isWhole_whole _)
            on1 (Memref.isWhole_whole _) cc0_scratch8 cc0_scratch9 cc0_scratch10 cc0_scratch11 cc0_scratch12 cc0_scratch13 cc0_scoped0 cc0_scoped1)
          fun _ => iprop(((xLoc d ↦{qx} m (xLoc d)) ∗ (bLoc d ↦{qb} m (bLoc d)) ∗ (nLoc d ↦{qn} m (nLoc d)) ∗ oAll d L (colsB m d) ∗ pAll d L (colsN m d))
            ∗ scopedBufs (thr d L) ∗ scopedSems0 (thr d L)
            ∗ ∃ W', ⌜∀ p ∈ W', p ∈ W ∨ p.2 = none⌝ ∗ owes (thr d L) O W') := by
  simp only [cc0_sc_split_eq_skeleton]; unfold cc0_sc_split_skel
  simp only [k0_part30_eq_skeleton]; unfold k0_part30_skel
  simp only [k0_part25_eq_skeleton, k0_part26_eq_skeleton, k0_part27_eq_skeleton, k0_part28_eq_skeleton, k0_part29_eq_skeleton]
  unfold k0_part25_skel k0_part26_skel k0_part27_skel k0_part28_skel k0_part29_skel
  simp only [body1_eq, body2_eq, body3_eq, body4_eq, body5_eq, body6_eq, body7_eq, body8_eq, Prog.bind_assoc, pure_bind]
  rw [(K (F := F)).scopedBufs_V hF d (cV L) (jV L), SparseCore.Cfg.scopedSems0_V (Val := Elt F) d (cV L) (jV L), sems_split, bufs_split,
    win_split d L qx, oAll, oAll, pAll, pAll, obl_split, obl_split, pbl_split, pbl_split]
  iintro ⟨#Hlv, -, ⟨⟨⟨Hw0, Hw1, Hw2, Hw3, Hw4, Hw5, Hw6, Hw7⟩, Hwr⟩, Hb, Hn, ⟨Ho0, Ho1, Ho2, Ho3, Ho4, Ho5, Ho6, Ho7⟩, ⟨Hp0, Hp1, Hp2, Hp3, Hp4, Hp5, Hp6, Hp7⟩⟩,
    ⟨⟨⟨%fbI, HbI⟩, ⟨%fnI, HnI⟩, ⟨%fi0, Hi0⟩, ⟨%fi1, Hi1⟩, ⟨%fb0, Hb0⟩, ⟨%fb1, Hb1⟩, ⟨%fn0, Hn0⟩, ⟨%fn1, Hn1⟩⟩, Hbufs⟩,
    ⟨⟨Hs0, Hs1, Hs2, Hs3, Hs4, Hs5, Hs6, Hs7⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hb := (Entails.of_eq (show (bLoc d ↦{qb} m (bLoc d) : sProp 𝕄) = (bV.view.loc (thr d L) ↦{qb} m (bLoc d)) from rfl)) $$ Hb
  ihave Hn := (Entails.of_eq (show (nLoc d ↦{qn} m (nLoc d) : sProp 𝕄) = (nV.view.loc (thr d L) ↦{qn} m (nLoc d)) from rfl)) $$ Hn
  sl_exec
  iapply (wp_rows d L in0 ob0 on0 (picks m d L hin fbI fnI (fi0) 0#32 (win_inb L 0) (k0_off34_inb L 0) (k0_off35_inb L 0))) $$ [Hi0 Hb0 Hn0]
  · isplitl [Hi0]; · iexact Hi0
    isplitl [Hb0] <;> iassumption
  iintro %gb0 %gn0 %h0 ⟨Hi0, Hb0, Hn0⟩
  sl_exec
  iapply (wp_rows d L in1 ob1 on1 (picks m d L hin fbI fnI (fi1) 64#32 (win_inb L 1) (k0_off34_inb L 1) (k0_off35_inb L 1))) $$ [Hi1 Hb1 Hn1]
  · isplitl [Hi1]; · iexact Hi1
    isplitl [Hb1] <;> iassumption
  iintro %gb1 %gn1 %h1 ⟨Hi1, Hb1, Hn1⟩
  sl_exec
  iapply (wp_rows d L in0 ob0 on0 (picks m d L hin fbI fnI (_) 128#32 (win_inb L 2) (k0_off34_inb L 2) (k0_off35_inb L 2))) $$ [Hi0 Hb0 Hn0]
  · isplitl [Hi0]; · iexact Hi0
    isplitl [Hb0] <;> iassumption
  iintro %gb2 %gn2 %h2 ⟨Hi0, Hb0, Hn0⟩
  sl_exec
  iapply (wp_rows d L in1 ob1 on1 (picks m d L hin fbI fnI (_) 192#32 (win_inb L 3) (k0_off34_inb L 3) (k0_off35_inb L 3))) $$ [Hi1 Hb1 Hn1]
  · isplitl [Hi1]; · iexact Hi1
    isplitl [Hb1] <;> iassumption
  iintro %gb3 %gn3 %h3 ⟨Hi1, Hb1, Hn1⟩
  sl_exec
  iapply (wp_rows d L in0 ob0 on0 (picks m d L hin fbI fnI (_) 256#32 (win_inb L 4) (k0_off34_inb L 4) (k0_off35_inb L 4))) $$ [Hi0 Hb0 Hn0]
  · isplitl [Hi0]; · iexact Hi0
    isplitl [Hb0] <;> iassumption
  iintro %gb4 %gn4 %h4 ⟨Hi0, Hb0, Hn0⟩
  sl_exec
  iapply (wp_rows d L in1 ob1 on1 (picks m d L hin fbI fnI (_) 320#32 (win_inb L 5) (k0_off34_inb L 5) (k0_off35_inb L 5))) $$ [Hi1 Hb1 Hn1]
  · isplitl [Hi1]; · iexact Hi1
    isplitl [Hb1] <;> iassumption
  iintro %gb5 %gn5 %h5 ⟨Hi1, Hb1, Hn1⟩
  sl_exec
  iapply (wp_rows d L in0 ob0 on0 (picks m d L hin fbI fnI (_) 384#32 (win_inb L 6) (k0_off34_inb L 6) (k0_off35_inb L 6))) $$ [Hi0 Hb0 Hn0]
  · isplitl [Hi0]; · iexact Hi0
    isplitl [Hb0] <;> iassumption
  iintro %gb6 %gn6 %h6 ⟨Hi0, Hb0, Hn0⟩
  sl_exec
  iapply (wp_rows d L in1 ob1 on1 (picks m d L hin fbI fnI (_) 448#32 (win_inb L 7) (k0_off34_inb L 7) (k0_off35_inb L 7))) $$ [Hi1 Hb1 Hn1]
  · isplitl [Hi1]; · iexact Hi1
    isplitl [Hb1] <;> iassumption
  iintro %gb7 %gn7 %h7 ⟨Hi1, Hb1, Hn1⟩
  sl_exec
  sl_step
  isplitl [Hw0 Hw1 Hw2 Hw3 Hw4 Hw5 Hw6 Hw7 Hwr Hb Hn Ho0 Ho1 Ho2 Ho3 Ho4 Ho5 Ho6 Ho7 Hp0 Hp1 Hp2 Hp3 Hp4 Hp5 Hp6 Hp7]
  · isplitl [Hw0 Hw1 Hw2 Hw3 Hw4 Hw5 Hw6 Hw7 Hwr]
    · isplitr [Hwr]; swap; · iexact Hwr
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      iexact Hw7
    isplitl [Hb]; · iexact Hb
    isplitl [Hn]; · iexact Hn
    isplitl [Ho0 Ho1 Ho2 Ho3 Ho4 Ho5 Ho6 Ho7]
    · isplitl [Ho0]; · iapply (obl_written (c := 0#32) m d L (k0_off34_inb L 0) _ ?wo0) $$ Ho0; exact h0.1
      isplitl [Ho1]; · iapply (obl_written (c := 64#32) m d L (k0_off34_inb L 1) _ ?wo1) $$ Ho1; exact h1.1
      isplitl [Ho2]; · iapply (obl_written (c := 128#32) m d L (k0_off34_inb L 2) _ ?wo2) $$ Ho2; exact h2.1
      isplitl [Ho3]; · iapply (obl_written (c := 192#32) m d L (k0_off34_inb L 3) _ ?wo3) $$ Ho3; exact h3.1
      isplitl [Ho4]; · iapply (obl_written (c := 256#32) m d L (k0_off34_inb L 4) _ ?wo4) $$ Ho4; exact h4.1
      isplitl [Ho5]; · iapply (obl_written (c := 320#32) m d L (k0_off34_inb L 5) _ ?wo5) $$ Ho5; exact h5.1
      isplitl [Ho6]; · iapply (obl_written (c := 384#32) m d L (k0_off34_inb L 6) _ ?wo6) $$ Ho6; exact h6.1
      iapply (obl_written (c := 448#32) m d L (k0_off34_inb L 7) _ ?wo7) $$ Ho7; exact h7.1
    isplitl [Hp0]; · iapply (pbl_written (c := 0#32) m d L (k0_off35_inb L 0) _ ?wp0) $$ Hp0; exact h0.2
    isplitl [Hp1]; · iapply (pbl_written (c := 64#32) m d L (k0_off35_inb L 1) _ ?wp1) $$ Hp1; exact h1.2
    isplitl [Hp2]; · iapply (pbl_written (c := 128#32) m d L (k0_off35_inb L 2) _ ?wp2) $$ Hp2; exact h2.2
    isplitl [Hp3]; · iapply (pbl_written (c := 192#32) m d L (k0_off35_inb L 3) _ ?wp3) $$ Hp3; exact h3.2
    isplitl [Hp4]; · iapply (pbl_written (c := 256#32) m d L (k0_off35_inb L 4) _ ?wp4) $$ Hp4; exact h4.2
    isplitl [Hp5]; · iapply (pbl_written (c := 320#32) m d L (k0_off35_inb L 5) _ ?wp5) $$ Hp5; exact h5.2
    isplitl [Hp6]; · iapply (pbl_written (c := 384#32) m d L (k0_off35_inb L 6) _ ?wp6) $$ Hp6; exact h6.2
    iapply (pbl_written (c := 448#32) m d L (k0_off35_inb L 7) _ ?wp7) $$ Hp7; exact h7.2
  isplitl [HbI HnI Hi0 Hi1 Hb0 Hb1 Hn0 Hn1 Hbufs]
  · isplitr [Hbufs]; swap; · iexact Hbufs
    isplitl [HbI]; · iexists _; iexact HbI
    isplitl [HnI]; · iexists _; iexact HnI
    isplitl [Hi0]; · iexists _; iexact Hi0
    isplitl [Hi1]; · iexists _; iexact Hi1
    isplitl [Hb0]; · iexists _; iexact Hb0
    isplitl [Hb1]; · iexists _; iexact Hb1
    isplitl [Hn0]; · iexists _; iexact Hn0
    iexists _; iexact Hn1
  isplitl [Hs0 Hs1 Hs2 Hs3 Hs4 Hs5 Hs6 Hs7 Hsems]
  · isplitr [Hsems]; swap; · iexact Hsems
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  iexists _; isplitr; swap; · iexact HO
  ipureintro
  intro p hp
  repeat (rcases Finset.mem_insert.mp hp with hp | hp; · exact .inr (hp ▸ rfl))
  exact .inl hp

end Cert.Proof.Columns

end
-- ==== Proof.Pay.lean ====
/-
  What the handshakes carry, the task's obligation, and each core's split of what it takes among its sixteen tasks.
-/
module

public import proofs.«01_k».proof.Proof.Tile

@[expose] public section

noncomputable section

namespace Cert.Proof.Columns

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-- Core `c`'s sixteen tasks. -/
@[irreducible] def crew (d : Dev nD) (c : Fin 2) (f : Buf (Elt F) (oLoc d)) (g : Buf (Elt F) (pLoc d)) : sProp 𝕄 :=
  bigSep Finset.univ fun i : Fin 16 => task m d c i f g

theorem crew_def (d : Dev nD) (c : Fin 2) (f : Buf (Elt F) (oLoc d)) (g : Buf (Elt F) (pLoc d)) :
    crew m d c f g = bigSep Finset.univ fun i : Fin 16 => task m d c i f g := by unfold crew; rfl

/-- Each core takes its tasks' parts, each task its own; they come back with the blocks at the named columns. -/
def P : (K (F := F)).Pay (nD := nD) (Val := Elt F) (Name := ℕ) (U := UU) where
  st := fun q d c => match q with | 0 => crew m d (Fin.cast nCore_zero c) (m (oLoc d)) (m (pLoc d))
  dn := fun q d c => match q with | 0 => crew m d (Fin.cast nCore_zero c) (colsB m d) (colsN m d)
  go := fun q d c i => match q with | 0 => task m d (Fin.cast nCore_zero c) (Fin.cast nSub_zero i) (m (oLoc d)) (m (pLoc d))
  td := fun q d c i => match q with | 0 => task m d (Fin.cast nCore_zero c) (Fin.cast nSub_zero i) (colsB m d) (colsN m d)
  x := fun _ _ => iprop(emp)

/-- The arrays are what the TensorCore keeps and the two cores' tasks. -/
theorem arrays_crews (d : Dev nD) (f : Buf (Elt F) (oLoc d)) (g : Buf (Elt F) (pLoc d)) :
    (iprop((xLoc d ↦{fullShare} m (xLoc d)) ∗ (bLoc d ↦{fullShare} m (bLoc d)) ∗ (nLoc d ↦{fullShare} m (nLoc d))
        ∗ (oLoc d ↦{fullShare} f) ∗ (pLoc d ↦{fullShare} g)) : sProp 𝕄)
      = iprop((kept (m (xLoc d)) ∗ kept (m (bLoc d)) ∗ kept (m (nLoc d))) ∗ bigSep Finset.univ fun c : Fin 2 => crew m d c f g) := by
  rw [arrays_split]; unfold crew; rfl

instance task_storable (d : Dev nD) (c : Fin 2) (i : Fin 16) (f : Buf (Elt F) (oLoc d)) (g : Buf (Elt F) (pLoc d)) :
    BI.Storable (upEmb : UEmb _ 𝕄) (task m d c i f g) := by
  unfold task
  infer_instance

instance crew_storable (d : Dev nD) (c : Fin 2) (f : Buf (Elt F) (oLoc d)) (g : Buf (Elt F) (pLoc d)) :
    BI.Storable (upEmb : UEmb _ 𝕄) (crew m d c f g) := by
  unfold crew
  infer_instance

instance P_storable : (P (F := F) m).IsStorable where
  st q d c := match q with
    | 0 => crew_storable m d (Fin.cast nCore_zero c) (m (oLoc d)) (m (pLoc d))
  dn q d c := match q with
    | 0 => crew_storable m d (Fin.cast nCore_zero c) (colsB m d) (colsN m d)
  go q d c i := match q with
    | 0 => task_storable m d (Fin.cast nCore_zero c) (Fin.cast nSub_zero i) (m (oLoc d)) (m (pLoc d))
  td q d c i := match q with
    | 0 => task_storable m d (Fin.cast nCore_zero c) (Fin.cast nSub_zero i) (colsB m d) (colsN m d)

/-! ## The task's obligation -/

theorem defs₀_vector (c : Fin τ.nSC) (s : Fin τ.nSub) :
    defs₀ (F := F) (.scVector c s) 0 ()
      = SparseCore.onTile hcore0 hsub0 (fun c s => cc0_sc_split (coordsV c s)
          xV (Memref.isWhole_whole _) bV (Memref.isWhole_whole _) nV (Memref.isWhole_whole _) oV (Memref.isWhole_whole _)
          pV (Memref.isWhole_whole _) bI (Memref.isWhole_whole _) nI (Memref.isWhole_whole _) in0 (Memref.isWhole_whole _)
          in1 (Memref.isWhole_whole _) ob0 (Memref.isWhole_whole _) ob1 (Memref.isWhole_whole _) on0 (Memref.isWhole_whole _)
          on1 (Memref.isWhole_whole _) cc0_scratch8 cc0_scratch9 cc0_scratch10 cc0_scratch11 cc0_scratch12 cc0_scratch13 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hin : InWindow m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hin (part (Fin.cast nCore_zero c) (Fin.cast nSub_zero i))
    (part (Fin.cast nCore_zero c) (Fin.cast nSub_zero i)) (part (Fin.cast nCore_zero c) (Fin.cast nSub_zero i)) O W hO).trans
      (wp_mono frame _ _ fun _ => obl_post)

theorem crew_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem go0_eq (d : Dev nD) (c : Fin ((K (F := F)).nCore 0)) :
    (bigSep Finset.univ fun i : Fin ((K (F := F)).nSub 0) => (P m).go 0 d c i) = (P m).st 0 d c :=
  (crew_tasks (F := F) fun i => task m d (Fin.cast nCore_zero c) i (m (oLoc d)) (m (pLoc d))).trans (crew_def m d (Fin.cast nCore_zero c) _ _).symm
theorem td0_eq (d : Dev nD) (c : Fin ((K (F := F)).nCore 0)) :
    (bigSep Finset.univ fun i : Fin ((K (F := F)).nSub 0) => (P m).td 0 d c i) = (P m).dn 0 d c :=
  (crew_tasks (F := F) fun i => task m d (Fin.cast nCore_zero c) i (colsB m d) (colsN m d)).trans (crew_def m d (Fin.cast nCore_zero c) _ _).symm

/-- A whole that is its parts, given out and taken back. -/
theorem give_back {A A' B B' : sProp 𝕄} (hA : A' = A) (hB : B' = B) : A ⊢ |={Set.univ}=> iprop(A' ∗ (B' -∗ B)) := by
  subst hA hB
  iintro H; imodintro
  isplitl [H]; · iexact H
  iintro H; iexact H

theorem vecSplit : (K (F := F)).VecSplit' (P m) 0 := fun d c => give_back (go0_eq m d c) (td0_eq m d c)

end Cert.Proof.Columns

end
-- ==== Proof.Launch.lean ====
/-
  The launch: @main on the TensorCore and the whole program's run, with the two results named.
-/
module

public import proofs.«01_k».proof.Proof.Pay

@[expose] public section

noncomputable section

namespace Cert.Proof.Columns

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element of the ghost state -/

def u₀ : UU := (initOf (K (F := F)).hsCells (K (F := F)).hsToks, 1)

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## @main on the TensorCore -/

theorem unscopedBufs_eq (d : Dev nD) (W : (b : Ref sig .tc) → Buf (Elt F) ((d.tc : Thread nD τ).loc b)) :
    (unscopedBufs d W : sProp 𝕄) = iprop((xLoc d ↦{fullShare} W main_arg0) ∗ (bLoc d ↦{fullShare} W main_arg1) ∗ (nLoc d ↦{fullShare} W main_arg2)
      ∗ (oLoc d ↦{fullShare} W main_v0_0) ∗ (pLoc d ↦{fullShare} W main_v0_1)) := by
  unfold unscopedBufs
  rw [show (Finset.univ.filter fun b : Ref sig .tc => ¬ b.isScoped) = {main_arg0, main_arg1, main_arg2, main_v0_0, main_v0_1} by decide,
    SparseCore.bigSep_insert' (by decide), SparseCore.bigSep_insert' (by decide), SparseCore.bigSep_insert' (by decide),
    SparseCore.bigSep_insert' (by decide), bigSep_singleton]

theorem cores_eq (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P m).st 0 d c) = bigSep Finset.univ fun c => crew m d c (m (oLoc d)) (m (pLoc d)) :=
  cores_eq (F := F) fun c => crew m d c (m (oLoc d)) (m (pLoc d))
theorem dn0_eq (d : Dev nD) : (bigSep Finset.univ fun c : Fin ((K (F := F)).nCore 0) => (P m).dn 0 d c) = bigSep Finset.univ fun c => crew m d c (colsB m d) (colsN m d) :=
  cores_eq (F := F) fun c => crew m d c (colsB m d) (colsN m d)

/-- What the program leaves: the arguments as launched, the two results at the named columns. -/
abbrev FIN (d : Dev nD) : sProp 𝕄 := iprop((xLoc d ↦{fullShare} m (xLoc d)) ∗ (bLoc d ↦{fullShare} m (bLoc d)) ∗ (nLoc d ↦{fullShare} m (nLoc d))
  ∗ (oLoc d ↦{fullShare} colsB m d) ∗ (pLoc d ↦{fullShare} colsN m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd FIN
  rw [unscopedBufs_eq]
  simp only [main, wp_bind, wp_pure]
  rw [arrays_crews m d (colsB m d) (colsN m d)]
  iintro ⟨#Hctx, Hst, ⟨Hb, Harr, Hts, -⟩, -⟩
  ihave Harr := (Entails.of_eq (arrays_crews m d (m (oLoc d)) (m (pLoc d)))) $$ Harr
  icases Harr with ⟨Hkept, Hparts⟩
  iapply ((K (F := F)).wp_run (D (F := F)) 𝒱 (EH := EH) (P := P m) κ d 0) $$ [Hst Hparts Hkept Hb Hts]
  isplitr; · iexact Hctx
  isplitl [Hst]; · iexact Hst
  isplitl [Hparts]
  · rw [st0_eq]; iexact Hparts
  iintro ⟨Hst, Hdn⟩
  ihave Hdn' := (Entails.of_eq (dn0_eq m d)) $$ Hdn
  imodintro
  isplitl [Hst]; · iexact Hst
  isplitr [Hb Hts]
  · isplitl [Hkept]; · iexact Hkept
    iexact Hdn'
  isplitl [Hb] <;> iassumption

def fq (d : Dev nD) (s' : Phys nD τ sig (Elt F)) : Prop :=
  s'.mem.mem (xLoc d) = m (xLoc d) ∧ s'.mem.mem (bLoc d) = m (bLoc d) ∧ s'.mem.mem (nLoc d) = m (nLoc d)
    ∧ s'.mem.mem (oLoc d) = colsB m d ∧ s'.mem.mem (pLoc d) = colsN m d

/-- What is owned whole is what the memory holds. -/
theorem agree {ℓ : Loc nD τ sig} {f : Buf (Elt F) ℓ} {s' : Phys nD τ sig (Elt F)} :
    iprop((ℓ ↦{fullShare} f) ∗ SI s') ⊢ iprop(⌜s'.mem.mem ℓ = f⌝ ∗ SI s' : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨Hx, Hb, Hn, Ho, Hp⟩, HSI⟩
  ihave H := (agree (ℓ := xLoc d)) $$ [Hx HSI]; · isplitl [Hx] <;> iassumption
  icases H with ⟨%hx, HSI⟩
  ihave H := (agree (ℓ := bLoc d)) $$ [Hb HSI]; · isplitl [Hb] <;> iassumption
  icases H with ⟨%hb, HSI⟩
  ihave H := (agree (ℓ := nLoc d)) $$ [Hn HSI]; · isplitl [Hn] <;> iassumption
  icases H with ⟨%hn, HSI⟩
  ihave H := (agree (ℓ := oLoc d)) $$ [Ho HSI]; · isplitl [Ho] <;> iassumption
  icases H with ⟨%ho, HSI⟩
  ihave H := (agree (ℓ := pLoc d)) $$ [Hp HSI]; · isplitl [Hp] <;> iassumption
  icases H with ⟨%hp, -⟩
  ipureintro; exact ⟨hx, hb, hn, ho, hp⟩

/-! ## The program's run -/

def QC : PUnit × MemSt nD τ sig (Elt F) → Prop := fun r =>
  (∀ d : Dev nD, r.2.mem (xLoc d) = m (xLoc d) ∧ r.2.mem (bLoc d) = m (bLoc d) ∧ r.2.mem (nLoc d) = m (nLoc d)
    ∧ r.2.mem (oLoc d) = colsB m d ∧ r.2.mem (pLoc d) = colsN m d) ∧ r.2.sem = fun _ => 0

theorem run_main [∀ e, Nonempty (Elt F e)] (hin : InWindow m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hin)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Columns

end
-- ==== Proof.InRange.lean ====
/-
  The claims' precondition, every entry of both lists at least 0 and below 256, gives what the run asks of the launch
  memory.
-/
module

public import proofs.«01_k».proof.Proof.Cols
public import proofs.«01_k».proof.Proof.Gen.Pre_in_range
public import Idealize.ShloMosaic.Lib.Affine
public import Idealize.ShloMosaic.Lib.ReduceAll

@[expose] public section

noncomputable section

namespace Cert.Proof.Columns

open Cert.KernelIdeal Cert.KernelIdeal.Gen Idealize.ShloMosaic

variable {F : FTy → Type} [FloatOps F]

/-- Two words whose conjunction is 1 are both 1. -/
theorem both_one {p q : BitVec 1} (h : IntOp.andi p q = 1#1) : p = 1#1 ∧ q = 1#1 := by
  revert p q; decide

instance : Subsingleton Cert.Pre_in_range.S_.Idx := ⟨fun a b => funext fun x => x.elim0⟩

/-- A list whose entries are all at least 0 and all below 256, as signed words. -/
theorem below {s : Shape} {v lo hi : IVec s 32} (hlo : ∀ j, lo j = 0#32) (hhi : ∀ j, hi j = 256#32)
    (h0 : ∀ j, cmpi .sge v lo j = 1#1) (h1 : ∀ j, cmpi .slt v hi j = 1#1) (j : s.Idx) : (v j).toNat < 256 := by
  have a := IntOp.cmpi_sge.1 (h0 j)
  have b := IntOp.cmpi_slt.1 (h1 j)
  rw [hlo, show (0#32 : BitVec 32).toInt = 0 by decide] at a
  rw [hhi, show (256#32 : BitVec 32).toInt = 256 by decide] at b
  rw [BitVec.toInt_eq_toNat_cond] at a b
  split at a <;> omega

theorem window_of_pre (m : (ℓ : Loc nD τ sig) → Buf (Elt F) ℓ)
    (h : ∀ d, Cert.Pre_in_range.fn (F := F) (m (xLoc d)) (m (bLoc d)) (m (nLoc d)) = fun _ => 1#1) : InWindow m := by
  have parts (d : Dev nD) := both_one (congrFun (h d) (fun a => a.elim0))
  have parts' (d : Dev nD) := both_one (parts d).1
  have parts'' (d : Dev nD) := both_one (parts' d).1
  refine ⟨fun d => below (fun _ => rfl) (fun _ => rfl) (fun j => Host.reduce_andi_all _ _ _ _ _ (parts'' d).1 j)
      fun j => Host.reduce_andi_all _ _ _ _ _ (parts'' d).2 j,
    fun d => below (fun _ => rfl) (fun _ => rfl) (fun j => Host.reduce_andi_all _ _ _ _ _ (parts' d).2 j)
      fun j => Host.reduce_andi_all _ _ _ _ _ (parts d).2 j⟩

end Cert.Proof.Columns

end
-- ==== Proof.Taken.lean ====
/-
  What the reference's `jnp.take` along the columns computes at one place of its result, when every index of the
  list is a column of the array: the wrap of negative indices does nothing, the mask of indices in range is all
  ones, and the gather reads the named column.
-/
module

public import Idealize.ShloMosaic.Lib.StableHlo.Run
public import Idealize.ShloMosaic.Lib.Pipeline.Value
public import Idealize.ShloMosaic.Lib.Affine
public import Idealize.ShloMosaic.Lib.ReduceAll
public import Idealize.ShloMosaic.Lib.ValueIdxCore
public import Idealize.ShloMosaic.Lib.Routing.OpsPair

@[expose] public section

noncomputable section

namespace Cert.Proof.Taken

open Idealize.ShloMosaic Idealize.ShloMosaic.ValueIdx

abbrev L1 (n : ℕ) : Shape := ⟨1, ![n]⟩
abbrev L2 (a b : ℕ) : Shape := ⟨2, ![a, b]⟩

/-- A coordinate read at a list's entry is the one read at the entry all members of the list are. -/
theorem coord_at {s : Shape} (j : s.Idx) {l : List (Fin s.rank)} {k : Fin s.rank} (h : ∀ x ∈ l, x = k) {i : ℕ} (hi : i < l.length) :
    (j l[i]).val = (j k).val :=
  congrArg (fun a => (j a).val) (h _ (List.getElem_mem hi))

/-- A gather of whole columns, one per entry of a list of start indices, reads the column its entry names. -/
theorem gather_column {α : Type} {R C n w : ℕ} (d : GatherDims (L2 R C) (L2 n 1) (L2 R n)) (ho : d.offsetDims = [0])
    (hc : d.collapsedSliceDims = [1]) (hb : d.operandBatchingDims = []) (hs : d.startIndexMap = [1]) (hv : d.indexVectorDim = 1)
    (x : (L2 R C).Idx → α) (W : IVec (L2 n 1) w) (r : Fin R) (c : Fin n) (k : Fin C)
    (hk : (W (ix2 c (0 : Fin 1))).toInt = k.val) : Host.gather d x W (ix2 r c) = x (ix2 r k) := by
  have none (a : Fin 2) : d.batchCoord (ix2 r c) a = 0 := d.batchCoord_eq_zero (ix2 r c) a (by rw [hb]; exact List.not_mem_nil)
  have batch : ∀ a ∈ d.batchDims, a = (1 : Fin 2) := fun a ha => by
    have hne : a ∉ d.offsetDims := of_decide_eq_true (List.mem_filter.1 ha).2
    rw [ho, List.mem_singleton] at hne
    have lt : a.val < 2 := a.isLt
    have ne : a.val ≠ 0 := fun e => hne (Fin.ext e)
    exact Fin.ext (show a.val = 1 by omega)
  have first : ∀ a ∈ d.offsetDims, a = (0 : Fin 2) := fun a ha => by
    rw [ho] at ha
    exact List.mem_singleton.1 ha
  have named (i : Fin d.startIndexMap.length) : d.siIdx (ix2 r c) i = ix2 c (0 : Fin 1) := by
    refine funext fun b => Fin.ext ?_
    match b with
    | ⟨0, _⟩ =>
      unfold GatherDims.siIdx
      rw [dif_neg (by rw [hv]; exact Nat.zero_ne_one)]
      exact coord_at (ix2 r c) batch _
    | ⟨1, h⟩ =>
      have lt : (d.siIdx (ix2 r c) i ⟨1, h⟩).val < 1 := (d.siIdx (ix2 r c) i ⟨1, h⟩).isLt
      show (d.siIdx (ix2 r c) i ⟨1, h⟩).val = 0
      omega
  refine congrArg x (funext fun a => Fin.ext ?_)
  match a with
  | ⟨0, _⟩ =>
    have here : (0 : Fin 2) ∈ d.sKept := (d.mem_sKept 0).2 ⟨by rw [hc]; exact fun h => absurd (List.mem_singleton.1 h) Fin.zero_ne_one, by rw [hb]; exact List.not_mem_nil⟩
    have gone : (0 : Fin 2) ∉ d.startIndexMap := by rw [hs]; exact fun h => absurd (List.mem_singleton.1 h) Fin.zero_ne_one
    show d.start (ix2 r c) W 0 + d.batchCoord (ix2 r c) 0 + d.offCoord (ix2 r c) 0 = r.val
    rw [none, GatherDims.start, GatherDims.offCoord, dif_neg gone, dif_pos here, Nat.add_zero, Nat.zero_add]
    exact coord_at (ix2 r c) first _
  | ⟨1, _⟩ =>
    have gone : (1 : Fin 2) ∉ d.sKept := fun h => ((d.mem_sKept 1).1 h).1 (by rw [hc]; exact List.mem_singleton.2 rfl)
    have here : (1 : Fin 2) ∈ d.startIndexMap := by rw [hs]; exact List.mem_singleton.2 rfl
    have wide : d.sliceSizes 1 = 1 := d.slice_collapsed 1 (by rw [hc]; exact List.mem_singleton.2 rfl)
    show d.start (ix2 r c) W 1 + d.batchCoord (ix2 r c) 1 + d.offCoord (ix2 r c) 1 = k.val
    rw [none, d.offCoord_eq_zero (ix2 r c) 1 gone, GatherDims.start, dif_pos here, named, hk, wide]
    have lt := k.isLt
    show min ((k.val : ℤ)).toNat (C - 1) + 0 + 0 = k.val
    omega

/-- A list's entries as a column of start indices, negative ones wrapped: no entry below `2 ^ 31` changes. -/
theorem starts_at {n : ℕ} (hz : (⟨0, ![]⟩ : Shape).BroadcastsInDim (L1 n) ![]) (hcol : (L1 n).BroadcastsInDim (L2 n 1) ![0])
    (L : IVec (L1 n) 32) (c : IVec (L1 n) 32) (q : (L2 n 1).Idx) (hL : ∀ p, (L p).toNat < 2 ^ 31) :
    broadcastInDim (L2 n 1) ![0] hcol
      (select (cmpi .slt L (broadcastInDim (L1 n) ![] hz (constantI ⟨0, ![]⟩ 32 0#32))) (addi L c) L) q = L (ix1 (q 0)) := by
  refine (broadcastInDim_apply _ hcol _ q (ix1 (q 0)) fun a => ?_).trans (Routing.wrap_of_lt _ _ (hL _))
  match a with
  | ⟨0, _⟩ =>
    have lt : (q 0).val < n := (q 0).isLt
    show (q 0).val = if n = 1 then 0 else (q 0).val
    split <;> omega

/-- `jnp.take` of columns at a list of columns: what is out of range is never looked at. -/
theorem take_column {α : Type} {R n : ℕ} (d : GatherDims (L2 R 4096) (L2 n 1) (L2 R n)) (ho : d.offsetDims = [0])
    (hc : d.collapsedSliceDims = [1]) (hb : d.operandBatchingDims = []) (hs : d.startIndexMap = [1]) (hv : d.indexVectorDim = 1)
    (hm : (L1 n).BroadcastsInDim (L2 R n) ![1]) (hr : (L2 n 1).ReducesTo [1] (L1 n)) (hu : 0 < (⟨0, ![]⟩ : Shape).numel)
    (x : (L2 R 4096).Idx → α) (out : (L2 R n).Idx → α) (W lo hi : IVec (L2 n 1) 32) (L : IVec (L1 n) 32)
    (hW : ∀ q, W q = L (ix1 (q 0))) (hL : ∀ p, (L p).toNat < 4096) (hlo : ∀ q, lo q = 0#32) (hhi : ∀ q, hi q = 4095#32)
    (r : Fin R) (c : Fin n) :
    select (broadcastInDim (L2 R n) ![1] hm
        (Host.reduce IntOp.andi (andi (cmpi .sge W lo) (cmpi .sle W hi)) (constantI ⟨0, ![]⟩ 1 1#1) hr hu)) (Host.gather d x W) out (ix2 r c)
      = x (ix2 r (⟨(L (ix1 c)).toNat, hL _⟩ : Fin 4096)) := by
  have small (p : (L1 n).Idx) : (L p).toInt = (L p).toNat := by
    have := hL p
    rw [BitVec.toInt_eq_toNat_cond, if_pos (by omega)]
  have inside (q : (L2 n 1).Idx) : andi (cmpi .sge W lo) (cmpi .sle W hi) q = 1#1 := by
    have a : IntOp.cmpi .sge (W q) (lo q) = 1#1 := IntOp.cmpi_sge.2 (by
      rw [hW, hlo, small]
      exact Int.natCast_nonneg _)
    have b : IntOp.cmpi .sle (W q) (hi q) = 1#1 := IntOp.cmpi_sle.2 (by
      have := hL (ix1 (q 0))
      rw [hW, hhi, small, show (4095#32 : BitVec 32).toInt = 4095 by decide]
      omega)
    show IntOp.andi (IntOp.cmpi .sge (W q) (lo q)) (IntOp.cmpi .sle (W q) (hi q)) = 1#1
    rw [a, b]; decide
  have mask : broadcastInDim (L2 R n) ![1] hm
      (Host.reduce IntOp.andi (andi (cmpi .sge W lo) (cmpi .sle W hi)) (constantI ⟨0, ![]⟩ 1 1#1) hr hu) (ix2 r c) = 1#1 :=
    Host.reduce_andi_one _ _ hr hu _ rfl inside
  show Scalar.select _ (Host.gather d x W (ix2 r c)) (out (ix2 r c)) = _
  rw [mask, select_one]
  exact gather_column d ho hc hb hs hv x W r c _ (by rw [hW]; exact small _)

end Cert.Proof.Taken

end
-- ==== Proof.Reference.lean ====
/-
  The reference's run, read at its two results: at indices in range they are the columns the lists name.
-/
module

public import proofs.«01_k».proof.Proof.Cols
public import proofs.«01_k».proof.Proof.Taken
public import proofs.«01_k».proof.Proof.Gen.ReferenceIdeal.Run

@[expose] public section

noncomputable section

namespace Cert.Proof.Columns

open Idealize.ShloMosaic Idealize.ShloMosaic.ValueIdx Idealize.ShloMosaic.TcCoe Idealize.SL.Sem

variable {F : FTy → Type} [FloatOps F]

/-- A place of the array whose column is one. -/
theorem place_eq (r : Fin 16384) {n : ℕ} (h : n < 4096) : place r n = ix2 r (⟨n, h⟩ : Fin 4096) := by
  refine funext fun a => Fin.ext ?_
  match a with
  | 0 => rfl
  | 1 => exact Nat.mod_eq_of_lt h

abbrev rLoc (d : Dev Cert.ReferenceIdeal.nD) (b : Ref Cert.ReferenceIdeal.sig .tc) : Loc Cert.ReferenceIdeal.nD Cert.ReferenceIdeal.τ Cert.ReferenceIdeal.sig :=
  (d.tc : Thread Cert.ReferenceIdeal.nD Cert.ReferenceIdeal.τ).loc b

variable (m : (ℓ : Loc Cert.KernelIdeal.nD Cert.KernelIdeal.τ Cert.KernelIdeal.sig) → Buf (Elt F) ℓ)
  (m' : (ℓ : Loc Cert.ReferenceIdeal.nD Cert.ReferenceIdeal.τ Cert.ReferenceIdeal.sig) → Buf (Elt F) ℓ)

theorem colsB_at (d : Dev Cert.KernelIdeal.nD) {X : Cert.KernelIdeal.S16384x4096.Idx → F .f32} {L : IVec (Taken.L1 32) 32}
    (hX : X = m (xLoc d)) (hL : L = m (bLoc d)) (r : Fin 16384) (c : Fin 32) (lt : (L (ix1 c)).toNat < 4096) :
    X (ix2 r (⟨(L (ix1 c)).toNat, lt⟩ : Fin 4096)) = colsB m d (ix2 r c) := by
  subst hX hL
  have e : ix1 c = one32 c := funext fun a => Fin.ext (by
    match a with
    | 0 => rfl)
  rw [← place_eq r lt, e]; rfl

theorem colsN_at (d : Dev Cert.KernelIdeal.nD) {X : Cert.KernelIdeal.S16384x4096.Idx → F .f32} {L : IVec (Taken.L1 96) 32}
    (hX : X = m (xLoc d)) (hL : L = m (nLoc d)) (r : Fin 16384) (c : Fin 96) (lt : (L (ix1 c)).toNat < 4096) :
    X (ix2 r (⟨(L (ix1 c)).toNat, lt⟩ : Fin 4096)) = colsN m d (ix2 r c) := by
  subst hX hL
  have e : ix1 c = one96 c := funext fun a => Fin.ext (by
    match a with
    | 0 => rfl)
  rw [← place_eq r lt, e]; rfl

/-- The two launch memories hold the same arguments. -/
def Same : Prop := ∀ d : Dev Cert.KernelIdeal.nD, m' (rLoc d Cert.ReferenceIdeal.main_arg0) = m (xLoc d)
  ∧ m' (rLoc d Cert.ReferenceIdeal.main_arg1) = m (bLoc d) ∧ m' (rLoc d Cert.ReferenceIdeal.main_arg2) = m (nLoc d)

/-- The reference's run: the results at the named columns, the arguments as launched. -/
theorem run_reference (ρ : Dev Cert.ReferenceIdeal.nD → PrngReg) (hin : InWindow m) (hs : Same m m') :
    θ_run (Cert.ReferenceIdeal.defs (F := F)) (onTc (τ := Cert.ReferenceIdeal.τ) (Cert.ReferenceIdeal.main (F := F))) ⟨m', fun _ => 0, ρ⟩
      fun r => ∀ d : Dev Cert.ReferenceIdeal.nD, r.2.mem (rLoc d Cert.ReferenceIdeal.main_v0) = colsB m d
        ∧ r.2.mem (rLoc d Cert.ReferenceIdeal.main_v1) = colsN m d
        ∧ r.2.mem (rLoc d Cert.ReferenceIdeal.main_arg0) = m' (rLoc d Cert.ReferenceIdeal.main_arg0)
        ∧ r.2.mem (rLoc d Cert.ReferenceIdeal.main_arg1) = m' (rLoc d Cert.ReferenceIdeal.main_arg1)
        ∧ r.2.mem (rLoc d Cert.ReferenceIdeal.main_arg2) = m' (rLoc d Cert.ReferenceIdeal.main_arg2) := by
  refine (θ_run Cert.ReferenceIdeal.defs _ _).mono (fun r h d => ⟨(h d).1.trans ?_, (h d).2.1.trans ?_, (h d).2.2⟩)
    (Cert.ReferenceIdeal.Value.run m' ρ)
  · refine funext fun (j : Cert.KernelIdeal.S16384x32.Idx) => ?_
    obtain ⟨r, c, rfl⟩ : ∃ r c, j = ix2 r c := ⟨_, _, eq_ix2 j⟩
    have hL (p) : (m' (rLoc d Cert.ReferenceIdeal.main_arg1) p).toNat < 256 := by rw [(hs d).2.1]; exact hin.1 d p
    exact (Taken.take_column (n := 32) _ rfl rfl rfl rfl rfl _ _ _ _ _ _ _ _ (m' (rLoc d Cert.ReferenceIdeal.main_arg1))
      (fun q => Taken.starts_at _ _ _ _ q fun p => (hL p).trans (by decide)) (fun p => (hL p).trans (by decide))
      (fun _ => rfl) (fun _ => rfl) r c).trans (colsB_at m d (hs d).1 (hs d).2.1 r c _)
  · refine funext fun (j : Cert.KernelIdeal.S16384x96.Idx) => ?_
    obtain ⟨r, c, rfl⟩ : ∃ r c, j = ix2 r c := ⟨_, _, eq_ix2 j⟩
    have hL (p) : (m' (rLoc d Cert.ReferenceIdeal.main_arg2) p).toNat < 256 := by rw [(hs d).2.2]; exact hin.2 d p
    exact (Taken.take_column (n := 96) _ rfl rfl rfl rfl rfl _ _ _ _ _ _ _ _ (m' (rLoc d Cert.ReferenceIdeal.main_arg2))
      (fun q => Taken.starts_at _ _ _ _ q fun p => (hL p).trans (by decide)) (fun p => (hL p).trans (by decide))
      (fun _ => rfl) (fun _ => rfl) r c).trans (colsN_at m d (hs d).1 (hs d).2.2 r c _)

end Cert.Proof.Columns

end
-- ==== Proof.lean ====
/-
  The certificate: the kernel and its ideal reading run and leave both results at the columns the two lists name, the
  reference does too, and so the two compute the same.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import Idealize.ShloMosaic.Adequacy
public import Idealize.ShloMosaic.Init
public import proofs.«01_k».proof.Proof.Launch
public import proofs.«01_k».proof.Proof.InRange
public import proofs.«01_k».proof.Proof.Reference

@[expose] public section

noncomputable section

namespace Cert.Proof

open Idealize.ShloMosaic Idealize.SL.Sem

/-! ## The frames -/

theorem frame_ideal : Cert.quiescent_KernelIdeal := fun m ρ hpre =>
  (θ_run Cert.KernelIdeal.defs _ _).mono (fun _ h => ⟨fun c => ⟨(h.1 c).1, (h.1 c).2.1, (h.1 c).2.2.1⟩, h.2⟩)
    (Columns.run_main (F := Ideal) m ρ (Columns.window_of_pre m hpre))

/-- The kernel and its idealization have one text: the run at the words is the same run. -/
theorem frame_kernel : Cert.quiescent_Kernel := fun m ρ hpre =>
  (θ_run Cert.KernelIdeal.defs _ _).mono (fun _ h => ⟨fun c => ⟨(h.1 c).1, (h.1 c).2.1, (h.1 c).2.2.1⟩, h.2⟩)
    (Columns.run_main (F := Bits) m ρ (Columns.window_of_pre m hpre))

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference_in_range : Cert.quiescent_ReferenceIdeal_pre_in_range := fun m ρ _ => frame_reference m ρ trivial

/-! ## The results -/

/-- Both runs end with each row of the array at the columns the two lists name. -/
theorem results : Cert.algebraic_KernelIdeal_ReferenceIdeal := fun m ρ m' ρ' hpre same =>
  ⟨fun d => Columns.colsB m d, fun d => Columns.colsN m d,
    (θ_run Cert.KernelIdeal.defs _ _).mono (fun _ h c => ⟨(h.1 c).2.2.2.1, (h.1 c).2.2.2.2, (h.1 c).1, (h.1 c).2.1, (h.1 c).2.2.1⟩)
      (Columns.run_main (F := Ideal) m ρ (Columns.window_of_pre m hpre)),
    Columns.run_reference m m' ρ' (Columns.window_of_pre m hpre) same⟩

theorem claim : Cert.Claim :=
  ⟨Cert.Kernel.Gen.facts, Cert.KernelIdeal.Gen.facts, Cert.ReferenceIdeal.Gen.facts, Cert.Pre_in_range.Gen.facts,
    frame_kernel, frame_ideal, frame_reference, frame_reference_in_range, trivial, results⟩

end Cert.Proof

end
